-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "variance" .f32 0x3951B716#32 ((57646071435001 / 288230376151711744 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S1000000x16 : Shape := ⟨2, ![1000000, 16]⟩
abbrev S16x1 : Shape := ⟨2, ![16, 1]⟩
abbrev S1 : Shape := ⟨1, ![1]⟩
abbrev S1x16x1 : Shape := ⟨3, ![1, 16, 1]⟩
abbrev S1x1 : Shape := ⟨2, ![1, 1]⟩
abbrev S128x128 : Shape := ⟨2, ![128, 128]⟩
abbrev S8x16x128 : Shape := ⟨3, ![8, 16, 128]⟩
abbrev S8x128 : Shape := ⟨2, ![8, 128]⟩

abbrev nBuf : Space → Nat
  | .hbm => 9
  | .vmem => 3
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S16x1, .f32⟩
  | .hbm, ⟨5, _⟩ => ⟨S1, .f32⟩
  | .hbm, ⟨6, _⟩ => ⟨S1x16x1, .f32⟩
  | .hbm, ⟨7, _⟩ => ⟨S1x1, .f32⟩
  | .hbm, ⟨8, _⟩ => ⟨S128x128, .f32⟩
  | .local _ .vmem, ⟨0, _⟩ => ⟨S1x16x1, .f32⟩
  | .local _ .vmem, ⟨1, _⟩ => ⟨S1x1, .f32⟩
  | .local _ .vmem, ⟨2, _⟩ => ⟨S128x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32_4 : BitVec 32 := 16#32
  let v22 : BitVec 32 := Scalar.addi c0_i32 c16_i32_4
  let c1_i32 : BitVec 32 := 1#32
  ⟨c0_i32, v22, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32_127 : BitVec 32 := 8#32
  let v450 : BitVec 32 := Scalar.muli arg4 c8_i32_127
  let v451 : Index := Scalar.indexCast v450
  let c0_128 : Index := 0#32
  ![v451.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "variance" => some ((57646071435001 / 288230376151711744 : ℝ) : EReal)
  | _ => none
-- ==== ReferenceIdeal.lean ====
abbrev S16384 : Shape := ⟨1, ![16384]⟩
abbrev S1000000x16 : Shape := ⟨2, ![1000000, 16]⟩
abbrev S16x1 : Shape := ⟨2, ![16, 1]⟩
abbrev S1 : Shape := ⟨1, ![1]⟩
abbrev S6 : Shape := ⟨1, ![6]⟩
abbrev S_ : Shape := ⟨0, ![]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S16384x16 : Shape := ⟨2, ![16384, 16]⟩
abbrev S16384x1 : Shape := ⟨2, ![16384, 1]⟩
abbrev S128x128 : Shape := ⟨2, ![128, 128]⟩

abbrev nBuf : Space → Nat
  | .hbm => 882
  | .vmem => 0
  | .smem => 0
  | _ => 0

abbrev hbmTy0_0 (i : Nat) : BufTy := match i % 128 with
  | 0 => ⟨S16384, .i32⟩
  | 1 => ⟨S16384, .i32⟩
  | 2 => ⟨S1000000x16, .f32⟩
  | 3 => ⟨S1000000x16, .f32⟩
  | 4 => ⟨S16x1, .f32⟩
  | 5 => ⟨S1, .f32⟩
  | 6 => ⟨S6, .f32⟩
  | 7 => ⟨S6, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S1, .i32⟩
  | 19 => ⟨S_, .i32⟩
  | 20 => ⟨S1, .i32⟩
  | 21 => ⟨S_, .i32⟩
  | 22 => ⟨S2, .i64⟩
  | 23 => ⟨S_, .i64⟩
  | 24 => ⟨S2, .i64⟩
  | 25 => ⟨S2, .i64⟩
  | 26 => ⟨S_, .i64⟩
  | 27 => ⟨S2, .i64⟩
  | 28 => ⟨S2, .i64⟩
  | 29 => ⟨S2, .i32⟩
  | 30 => ⟨S2, .i32⟩
  | 31 => ⟨S_, .i32⟩
  | 32 => ⟨S_, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16384, .i32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2x1, .i32⟩
  | 126 => ⟨S2x1, .i32⟩
  | 127 => ⟨S2x2, .i32⟩
  | _ => ⟨S16384, .i32⟩

abbrev hbmTy0_2 (i : Nat) : BufTy := match i % 128 with
  | 0 => ⟨S1x2, .i32⟩
  | 1 => ⟨S2, .i32⟩
  | 2 => ⟨S1x2, .i32⟩
  | 3 => ⟨S2, .i32⟩
  | 4 => ⟨S_, .f32⟩
  | 5 => ⟨S_, .f32⟩
  | 6 => ⟨S_, .f32⟩
  | 7 => ⟨S_, .f32⟩
  | 8 => ⟨S1x1, .f32⟩
  | 9 => ⟨S1x1, .f32⟩
  | 10 => ⟨S1, .i32⟩
  | 11 => ⟨S_, .i32⟩
  | 12 => ⟨S1, .i32⟩
  | 13 => ⟨S_, .i32⟩
  | 14 => ⟨S16384x16, .i64⟩
  | 15 => ⟨S16384x16, .i64⟩
  | 16 => ⟨S_, .i64⟩
  | 17 => ⟨S16384x16, .i64⟩
  | 18 => ⟨S16384x16, .i64⟩
  | 19 => ⟨S_, .i64⟩
  | 20 => ⟨S16384x16, .i64⟩
  | 21 => ⟨S16384x16, .i64⟩
  | 22 => ⟨S16384x16, .i64⟩
  | 23 => ⟨S_, .i64⟩
  | 24 => ⟨S16384x16, .i64⟩
  | 25 => ⟨S16384x16, .i64⟩
  | 26 => ⟨S16384x16, .i32⟩
  | 27 => ⟨S16384x16, .i32⟩
  | 28 => ⟨S_, .i32⟩
  | 29 => ⟨S_, .i32⟩
  | 30 => ⟨S_, .i32⟩
  | 31 => ⟨S16384x16, .i32⟩
  | 32 => ⟨S16384x16, .i32⟩
  | 33 => ⟨S16384x16, .i32⟩
  | 34 => ⟨S16384x16, .i32⟩
  | 35 => ⟨S16384x16, .i32⟩
  | 36 => ⟨S_, .i32⟩
  | 37 => ⟨S16384x16, .i32⟩
  | 38 => ⟨S16384x16, .i32⟩
  | 39 => ⟨S_, .i32⟩
  | 40 => ⟨S16384x16, .i32⟩
  | 41 => ⟨S16384x16, .i32⟩
  | 42 => ⟨S16384x16, .i32⟩
  | 43 => ⟨S16384x16, .i32⟩
  | 44 => ⟨S16384x16, .i32⟩
  | 45 => ⟨S_, .i32⟩
  | 46 => ⟨S16384x16, .i32⟩
  | 47 => ⟨S16384x16, .i32⟩
  | 48 => ⟨S_, .i32⟩
  | 49 => ⟨S16384x16, .i32⟩
  | 50 => ⟨S16384x16, .i32⟩
  | 51 => ⟨S16384x16, .i32⟩
  | 52 => ⟨S16384x16, .i32⟩
  | 53 => ⟨S16384x16, .i32⟩
  | 54 => ⟨S_, .i32⟩
  | 55 => ⟨S16384x16, .i32⟩
  | 56 => ⟨S16384x16, .i32⟩
  | 57 => ⟨S_, .i32⟩
  | 58 => ⟨S16384x16, .i32⟩
  | 59 => ⟨S16384x16, .i32⟩
  | 60 => ⟨S16384x16, .i32⟩
  | 61 => ⟨S16384x16, .i32⟩
  | 62 => ⟨S16384x16, .i32⟩
  | 63 => ⟨S_, .i32⟩
  | 64 => ⟨S16384x16, .i32⟩
  | 65 => ⟨S16384x16, .i32⟩
  | 66 => ⟨S_, .i32⟩
  | 67 => ⟨S16384x16, .i32⟩
  | 68 => ⟨S16384x16, .i32⟩
  | 69 => ⟨S16384x16, .i32⟩
  | 70 => ⟨S16384x16, .i32⟩
  | 71 => ⟨S16384x16, .i32⟩
  | 72 => ⟨S16384x16, .i32⟩
  | 73 => ⟨S16384x16, .i32⟩
  | 74 => ⟨S16384x16, .i32⟩
  | 75 => ⟨S_, .i32⟩
  | 76 => ⟨S16384x16, .i32⟩
  | 77 => ⟨S16384x16, .i32⟩
  | 78 => ⟨S16384x16, .i32⟩
  | 79 => ⟨S_, .i32⟩
  | 80 => ⟨S16384x16, .i32⟩
  | 81 => ⟨S16384x16, .i32⟩
  | 82 => ⟨S_, .i32⟩
  | 83 => ⟨S16384x16, .i32⟩
  | 84 => ⟨S16384x16, .i32⟩
  | 85 => ⟨S16384x16, .i32⟩
  | 86 => ⟨S16384x16, .i32⟩
  | 87 => ⟨S16384x16, .i32⟩
  | 88 => ⟨S_, .i32⟩
  | 89 => ⟨S16384x16, .i32⟩
  | 90 => ⟨S16384x16, .i32⟩
  | 91 => ⟨S_, .i32⟩
  | 92 => ⟨S16384x16, .i32⟩
  | 93 => ⟨S16384x16, .i32⟩
  | 94 => ⟨S16384x16, .i32⟩
  | 95 => ⟨S16384x16, .i32⟩
  | 96 => ⟨S16384x16, .i32⟩
  | 97 => ⟨S_, .i32⟩
  | 98 => ⟨S16384x16, .i32⟩
  | 99 => ⟨S16384x16, .i32⟩
  | 100 => ⟨S_, .i32⟩
  | 101 => ⟨S16384x16, .i32⟩
  | 102 => ⟨S16384x16, .i32⟩
  | 103 => ⟨S16384x16, .i32⟩
  | 104 => ⟨S16384x16, .i32⟩
  | 105 => ⟨S16384x16, .i32⟩
  | 106 => ⟨S_, .i32⟩
  | 107 => ⟨S16384x16, .i32⟩
  | 108 => ⟨S16384x16, .i32⟩
  | 109 => ⟨S_, .i32⟩
  | 110 => ⟨S16384x16, .i32⟩
  | 111 => ⟨S16384x16, .i32⟩
  | 112 => ⟨S16384x16, .i32⟩
  | 113 => ⟨S16384x16, .i32⟩
  | 114 => ⟨S16384x16, .i32⟩
  | 115 => ⟨S16384x16, .i32⟩
  | 116 => ⟨S16384x16, .i32⟩
  | 117 => ⟨S16384x16, .i32⟩
  | 118 => ⟨S_, .i32⟩
  | 119 => ⟨S16384x16, .i32⟩
  | 120 => ⟨S16384x16, .i32⟩
  | 121 => ⟨S16384x16, .i32⟩
  | 122 => ⟨S_, .i32⟩
  | 123 => ⟨S16384x16, .i32⟩
  | 124 => ⟨S16384x16, .i32⟩
  | 125 => ⟨S_, .i32⟩
  | 126 => ⟨S16384x16, .i32⟩
  | 127 => ⟨S16384x16, .i32⟩
  | _ => ⟨S16384, .i32⟩

abbrev hbmTy0_3 (i : Nat) : BufTy := match i % 128 with
  | 0 => ⟨S16384x16, .i32⟩
  | 1 => ⟨S16384x16, .i32⟩
  | 2 => ⟨S16384x16, .i32⟩
  | 3 => ⟨S_, .i32⟩
  | 4 => ⟨S16384x16, .i32⟩
  | 5 => ⟨S16384x16, .i32⟩
  | 6 => ⟨S_, .i32⟩
  | 7 => ⟨S16384x16, .i32⟩
  | 8 => ⟨S16384x16, .i32⟩
  | 9 => ⟨S16384x16, .i32⟩
  | 10 => ⟨S16384x16, .i32⟩
  | 11 => ⟨S16384x16, .i32⟩
  | 12 => ⟨S_, .i32⟩
  | 13 => ⟨S16384x16, .i32⟩
  | 14 => ⟨S16384x16, .i32⟩
  | 15 => ⟨S_, .i32⟩
  | 16 => ⟨S16384x16, .i32⟩
  | 17 => ⟨S16384x16, .i32⟩
  | 18 => ⟨S16384x16, .i32⟩
  | 19 => ⟨S16384x16, .i32⟩
  | 20 => ⟨S16384x16, .i32⟩
  | 21 => ⟨S_, .i32⟩
  | 22 => ⟨S16384x16, .i32⟩
  | 23 => ⟨S16384x16, .i32⟩
  | 24 => ⟨S_, .i32⟩
  | 25 => ⟨S16384x16, .i32⟩
  | 26 => ⟨S16384x16, .i32⟩
  | 27 => ⟨S16384x16, .i32⟩
  | 28 => ⟨S16384x16, .i32⟩
  | 29 => ⟨S16384x16, .i32⟩
  | 30 => ⟨S16384x16, .i32⟩
  | 31 => ⟨S16384x16, .i32⟩
  | 32 => ⟨S16384x16, .i32⟩
  | 33 => ⟨S_, .i32⟩
  | 34 => ⟨S16384x16, .i32⟩
  | 35 => ⟨S16384x16, .i32⟩
  | 36 => ⟨S16384x16, .i32⟩
  | 37 => ⟨S_, .i32⟩
  | 38 => ⟨S16384x16, .i32⟩
  | 39 => ⟨S16384x16, .i32⟩
  | 40 => ⟨S_, .i32⟩
  | 41 => ⟨S16384x16, .i32⟩
  | 42 => ⟨S16384x16, .i32⟩
  | 43 => ⟨S16384x16, .i32⟩
  | 44 => ⟨S16384x16, .i32⟩
  | 45 => ⟨S16384x16, .i32⟩
  | 46 => ⟨S_, .i32⟩
  | 47 => ⟨S16384x16, .i32⟩
  | 48 => ⟨S16384x16, .i32⟩
  | 49 => ⟨S_, .i32⟩
  | 50 => ⟨S16384x16, .i32⟩
  | 51 => ⟨S16384x16, .i32⟩
  | 52 => ⟨S16384x16, .i32⟩
  | 53 => ⟨S16384x16, .i32⟩
  | 54 => ⟨S16384x16, .i32⟩
  | 55 => ⟨S_, .i32⟩
  | 56 => ⟨S16384x16, .i32⟩
  | 57 => ⟨S16384x16, .i32⟩
  | 58 => ⟨S_, .i32⟩
  | 59 => ⟨S16384x16, .i32⟩
  | 60 => ⟨S16384x16, .i32⟩
  | 61 => ⟨S16384x16, .i32⟩
  | 62 => ⟨S16384x16, .i32⟩
  | 63 => ⟨S16384x16, .i32⟩
  | 64 => ⟨S_, .i32⟩
  | 65 => ⟨S16384x16, .i32⟩
  | 66 => ⟨S16384x16, .i32⟩
  | 67 => ⟨S_, .i32⟩
  | 68 => ⟨S16384x16, .i32⟩
  | 69 => ⟨S16384x16, .i32⟩
  | 70 => ⟨S16384x16, .i32⟩
  | 71 => ⟨S16384x16, .i32⟩
  | 72 => ⟨S16384x16, .i32⟩
  | 73 => ⟨S16384x16, .i32⟩
  | 74 => ⟨S16384x16, .i32⟩
  | 75 => ⟨S16384x16, .i32⟩
  | 76 => ⟨S_, .i32⟩
  | 77 => ⟨S16384x16, .i32⟩
  | 78 => ⟨S16384x16, .i32⟩
  | 79 => ⟨S16384x16, .i32⟩
  | 80 => ⟨S_, .i32⟩
  | 81 => ⟨S16384x16, .i32⟩
  | 82 => ⟨S16384x16, .i32⟩
  | 83 => ⟨S_, .i32⟩
  | 84 => ⟨S16384x16, .i32⟩
  | 85 => ⟨S16384x16, .i32⟩
  | 86 => ⟨S16384x16, .i32⟩
  | 87 => ⟨S16384x16, .i32⟩
  | 88 => ⟨S16384x16, .i32⟩
  | 89 => ⟨S_, .i32⟩
  | 90 => ⟨S16384x16, .i32⟩
  | 91 => ⟨S16384x16, .i32⟩
  | 92 => ⟨S_, .i32⟩
  | 93 => ⟨S16384x16, .i32⟩
  | 94 => ⟨S16384x16, .i32⟩
  | 95 => ⟨S16384x16, .i32⟩
  | 96 => ⟨S16384x16, .i32⟩
  | 97 => ⟨S16384x16, .i32⟩
  | 98 => ⟨S_, .i32⟩
  | 99 => ⟨S16384x16, .i32⟩
  | 100 => ⟨S16384x16, .i32⟩
  | 101 => ⟨S_, .i32⟩
  | 102 => ⟨S16384x16, .i32⟩
  | 103 => ⟨S16384x16, .i32⟩
  | 104 => ⟨S16384x16, .i32⟩
  | 105 => ⟨S16384x16, .i32⟩
  | 106 => ⟨S16384x16, .i32⟩
  | 107 => ⟨S_, .i32⟩
  | 108 => ⟨S16384x16, .i32⟩
  | 109 => ⟨S16384x16, .i32⟩
  | 110 => ⟨S_, .i32⟩
  | 111 => ⟨S16384x16, .i32⟩
  | 112 => ⟨S16384x16, .i32⟩
  | 113 => ⟨S16384x16, .i32⟩
  | 114 => ⟨S16384x16, .i32⟩
  | 115 => ⟨S16384x16, .i32⟩
  | 116 => ⟨S16384x16, .i32⟩
  | 117 => ⟨S16384x16, .i32⟩
  | 118 => ⟨S16384x16, .i32⟩
  | 119 => ⟨S_, .i32⟩
  | 120 => ⟨S16384x16, .i32⟩
  | 121 => ⟨S16384x16, .i32⟩
  | 122 => ⟨S16384x16, .i32⟩
  | 123 => ⟨S_, .i32⟩
  | 124 => ⟨S16384x16, .i32⟩
  | 125 => ⟨S16384x16, .i32⟩
  | 126 => ⟨S_, .i32⟩
  | 127 => ⟨S16384x16, .i32⟩
  | _ => ⟨S16384, .i32⟩

abbrev hbmTy0_4 (i : Nat) : BufTy := match i % 128 with
  | 0 => ⟨S16384x16, .i32⟩
  | 1 => ⟨S16384x16, .f32⟩
  | 2 => ⟨S_, .f32⟩
  | 3 => ⟨S16384x16, .f32⟩
  | 4 => ⟨S16384x16, .f32⟩
  | 5 => ⟨S1x1, .f32⟩
  | 6 => ⟨S16384x16, .f32⟩
  | 7 => ⟨S16384x16, .f32⟩
  | 8 => ⟨S16384x16, .f32⟩
  | 9 => ⟨S16384x16, .f32⟩
  | 10 => ⟨S16384x16, .f32⟩
  | 11 => ⟨S16384x16, .f32⟩
  | 12 => ⟨S16384x16, .f32⟩
  | 13 => ⟨S16384x16, .f32⟩
  | 14 => ⟨S16384x16, .f32⟩
  | 15 => ⟨S16384x16, .f32⟩
  | 16 => ⟨S_, .f32⟩
  | 17 => ⟨S16384x16, .f32⟩
  | 18 => ⟨S16384x16, .f32⟩
  | 19 => ⟨S16384x16, .f32⟩
  | 20 => ⟨S16384x16, .f32⟩
  | 21 => ⟨S_, .f32⟩
  | 22 => ⟨S16384x16, .f32⟩
  | 23 => ⟨S16384x16, .f32⟩
  | 24 => ⟨S1, .f32⟩
  | 25 => ⟨S_, .f32⟩
  | 26 => ⟨S1, .f32⟩
  | 27 => ⟨S_, .f32⟩
  | 28 => ⟨S1, .f32⟩
  | 29 => ⟨S_, .f32⟩
  | 30 => ⟨S1, .f32⟩
  | 31 => ⟨S_, .f32⟩
  | 32 => ⟨S1, .f32⟩
  | 33 => ⟨S_, .f32⟩
  | 34 => ⟨S1, .f32⟩
  | 35 => ⟨S_, .f32⟩
  | 36 => ⟨S16384x16, .f32⟩
  | 37 => ⟨S16384x16, .f32⟩
  | 38 => ⟨S16384x16, .f32⟩
  | 39 => ⟨S16384x16, .f32⟩
  | 40 => ⟨S16384x16, .f32⟩
  | 41 => ⟨S16384x16, .f32⟩
  | 42 => ⟨S16384x16, .f32⟩
  | 43 => ⟨S16384x16, .f32⟩
  | 44 => ⟨S16384x16, .f32⟩
  | 45 => ⟨S16384x16, .f32⟩
  | 46 => ⟨S16384x16, .f32⟩
  | 47 => ⟨S16384x16, .f32⟩
  | 48 => ⟨S16384x16, .f32⟩
  | 49 => ⟨S16384x16, .f32⟩
  | 50 => ⟨S16384x16, .f32⟩
  | 51 => ⟨S16384x16, .f32⟩
  | 52 => ⟨S16384x16, .f32⟩
  | 53 => ⟨S_, .f32⟩
  | 54 => ⟨S16384x16, .f32⟩
  | 55 => ⟨S16384x16, .f32⟩
  | 56 => ⟨S_, .f32⟩
  | 57 => ⟨S_, .f32⟩
  | 58 => ⟨S_, .f32⟩
  | 59 => ⟨S_, .f32⟩
  | 60 => ⟨S1x1, .f32⟩
  | 61 => ⟨S1x1, .f32⟩
  | 62 => ⟨S1, .i32⟩
  | 63 => ⟨S_, .i32⟩
  | 64 => ⟨S1, .i32⟩
  | 65 => ⟨S_, .i32⟩
  | 66 => ⟨S16384x16, .i64⟩
  | 67 => ⟨S16384x16, .i64⟩
  | 68 => ⟨S_, .i64⟩
  | 69 => ⟨S16384x16, .i64⟩
  | 70 => ⟨S16384x16, .i64⟩
  | 71 => ⟨S_, .i64⟩
  | 72 => ⟨S16384x16, .i64⟩
  | 73 => ⟨S16384x16, .i64⟩
  | 74 => ⟨S16384x16, .i64⟩
  | 75 => ⟨S_, .i64⟩
  | 76 => ⟨S16384x16, .i64⟩
  | 77 => ⟨S16384x16, .i64⟩
  | 78 => ⟨S16384x16, .i32⟩
  | 79 => ⟨S16384x16, .i32⟩
  | 80 => ⟨S_, .i32⟩
  | 81 => ⟨S_, .i32⟩
  | 82 => ⟨S_, .i32⟩
  | 83 => ⟨S16384x16, .i32⟩
  | 84 => ⟨S16384x16, .i32⟩
  | 85 => ⟨S16384x16, .i32⟩
  | 86 => ⟨S16384x16, .i32⟩
  | 87 => ⟨S16384x16, .i32⟩
  | 88 => ⟨S_, .i32⟩
  | 89 => ⟨S16384x16, .i32⟩
  | 90 => ⟨S16384x16, .i32⟩
  | 91 => ⟨S_, .i32⟩
  | 92 => ⟨S16384x16, .i32⟩
  | 93 => ⟨S16384x16, .i32⟩
  | 94 => ⟨S16384x16, .i32⟩
  | 95 => ⟨S16384x16, .i32⟩
  | 96 => ⟨S16384x16, .i32⟩
  | 97 => ⟨S_, .i32⟩
  | 98 => ⟨S16384x16, .i32⟩
  | 99 => ⟨S16384x16, .i32⟩
  | 100 => ⟨S_, .i32⟩
  | 101 => ⟨S16384x16, .i32⟩
  | 102 => ⟨S16384x16, .i32⟩
  | 103 => ⟨S16384x16, .i32⟩
  | 104 => ⟨S16384x16, .i32⟩
  | 105 => ⟨S16384x16, .i32⟩
  | 106 => ⟨S_, .i32⟩
  | 107 => ⟨S16384x16, .i32⟩
  | 108 => ⟨S16384x16, .i32⟩
  | 109 => ⟨S_, .i32⟩
  | 110 => ⟨S16384x16, .i32⟩
  | 111 => ⟨S16384x16, .i32⟩
  | 112 => ⟨S16384x16, .i32⟩
  | 113 => ⟨S16384x16, .i32⟩
  | 114 => ⟨S16384x16, .i32⟩
  | 115 => ⟨S_, .i32⟩
  | 116 => ⟨S16384x16, .i32⟩
  | 117 => ⟨S16384x16, .i32⟩
  | 118 => ⟨S_, .i32⟩
  | 119 => ⟨S16384x16, .i32⟩
  | 120 => ⟨S16384x16, .i32⟩
  | 121 => ⟨S16384x16, .i32⟩
  | 122 => ⟨S16384x16, .i32⟩
  | 123 => ⟨S16384x16, .i32⟩
  | 124 => ⟨S16384x16, .i32⟩
  | 125 => ⟨S16384x16, .i32⟩
  | 126 => ⟨S16384x16, .i32⟩
  | 127 => ⟨S_, .i32⟩
  | _ => ⟨S16384, .i32⟩

abbrev hbmTy0_5 (i : Nat) : BufTy := match i % 128 with
  | 0 => ⟨S16384x16, .i32⟩
  | 1 => ⟨S16384x16, .i32⟩
  | 2 => ⟨S16384x16, .i32⟩
  | 3 => ⟨S_, .i32⟩
  | 4 => ⟨S16384x16, .i32⟩
  | 5 => ⟨S16384x16, .i32⟩
  | 6 => ⟨S_, .i32⟩
  | 7 => ⟨S16384x16, .i32⟩
  | 8 => ⟨S16384x16, .i32⟩
  | 9 => ⟨S16384x16, .i32⟩
  | 10 => ⟨S16384x16, .i32⟩
  | 11 => ⟨S16384x16, .i32⟩
  | 12 => ⟨S_, .i32⟩
  | 13 => ⟨S16384x16, .i32⟩
  | 14 => ⟨S16384x16, .i32⟩
  | 15 => ⟨S_, .i32⟩
  | 16 => ⟨S16384x16, .i32⟩
  | 17 => ⟨S16384x16, .i32⟩
  | 18 => ⟨S16384x16, .i32⟩
  | 19 => ⟨S16384x16, .i32⟩
  | 20 => ⟨S16384x16, .i32⟩
  | 21 => ⟨S_, .i32⟩
  | 22 => ⟨S16384x16, .i32⟩
  | 23 => ⟨S16384x16, .i32⟩
  | 24 => ⟨S_, .i32⟩
  | 25 => ⟨S16384x16, .i32⟩
  | 26 => ⟨S16384x16, .i32⟩
  | 27 => ⟨S16384x16, .i32⟩
  | 28 => ⟨S16384x16, .i32⟩
  | 29 => ⟨S16384x16, .i32⟩
  | 30 => ⟨S_, .i32⟩
  | 31 => ⟨S16384x16, .i32⟩
  | 32 => ⟨S16384x16, .i32⟩
  | 33 => ⟨S_, .i32⟩
  | 34 => ⟨S16384x16, .i32⟩
  | 35 => ⟨S16384x16, .i32⟩
  | 36 => ⟨S16384x16, .i32⟩
  | 37 => ⟨S16384x16, .i32⟩
  | 38 => ⟨S16384x16, .i32⟩
  | 39 => ⟨S16384x16, .i32⟩
  | 40 => ⟨S16384x16, .i32⟩
  | 41 => ⟨S16384x16, .i32⟩
  | 42 => ⟨S_, .i32⟩
  | 43 => ⟨S16384x16, .i32⟩
  | 44 => ⟨S16384x16, .i32⟩
  | 45 => ⟨S16384x16, .i32⟩
  | 46 => ⟨S_, .i32⟩
  | 47 => ⟨S16384x16, .i32⟩
  | 48 => ⟨S16384x16, .i32⟩
  | 49 => ⟨S_, .i32⟩
  | 50 => ⟨S16384x16, .i32⟩
  | 51 => ⟨S16384x16, .i32⟩
  | 52 => ⟨S16384x16, .i32⟩
  | 53 => ⟨S16384x16, .i32⟩
  | 54 => ⟨S16384x16, .i32⟩
  | 55 => ⟨S_, .i32⟩
  | 56 => ⟨S16384x16, .i32⟩
  | 57 => ⟨S16384x16, .i32⟩
  | 58 => ⟨S_, .i32⟩
  | 59 => ⟨S16384x16, .i32⟩
  | 60 => ⟨S16384x16, .i32⟩
  | 61 => ⟨S16384x16, .i32⟩
  | 62 => ⟨S16384x16, .i32⟩
  | 63 => ⟨S16384x16, .i32⟩
  | 64 => ⟨S_, .i32⟩
  | 65 => ⟨S16384x16, .i32⟩
  | 66 => ⟨S16384x16, .i32⟩
  | 67 => ⟨S_, .i32⟩
  | 68 => ⟨S16384x16, .i32⟩
  | 69 => ⟨S16384x16, .i32⟩
  | 70 => ⟨S16384x16, .i32⟩
  | 71 => ⟨S16384x16, .i32⟩
  | 72 => ⟨S16384x16, .i32⟩
  | 73 => ⟨S_, .i32⟩
  | 74 => ⟨S16384x16, .i32⟩
  | 75 => ⟨S16384x16, .i32⟩
  | 76 => ⟨S_, .i32⟩
  | 77 => ⟨S16384x16, .i32⟩
  | 78 => ⟨S16384x16, .i32⟩
  | 79 => ⟨S16384x16, .i32⟩
  | 80 => ⟨S16384x16, .i32⟩
  | 81 => ⟨S16384x16, .i32⟩
  | 82 => ⟨S16384x16, .i32⟩
  | 83 => ⟨S16384x16, .i32⟩
  | 84 => ⟨S16384x16, .i32⟩
  | 85 => ⟨S_, .i32⟩
  | 86 => ⟨S16384x16, .i32⟩
  | 87 => ⟨S16384x16, .i32⟩
  | 88 => ⟨S16384x16, .i32⟩
  | 89 => ⟨S_, .i32⟩
  | 90 => ⟨S16384x16, .i32⟩
  | 91 => ⟨S16384x16, .i32⟩
  | 92 => ⟨S_, .i32⟩
  | 93 => ⟨S16384x16, .i32⟩
  | 94 => ⟨S16384x16, .i32⟩
  | 95 => ⟨S16384x16, .i32⟩
  | 96 => ⟨S16384x16, .i32⟩
  | 97 => ⟨S16384x16, .i32⟩
  | 98 => ⟨S_, .i32⟩
  | 99 => ⟨S16384x16, .i32⟩
  | 100 => ⟨S16384x16, .i32⟩
  | 101 => ⟨S_, .i32⟩
  | 102 => ⟨S16384x16, .i32⟩
  | 103 => ⟨S16384x16, .i32⟩
  | 104 => ⟨S16384x16, .i32⟩
  | 105 => ⟨S16384x16, .i32⟩
  | 106 => ⟨S16384x16, .i32⟩
  | 107 => ⟨S_, .i32⟩
  | 108 => ⟨S16384x16, .i32⟩
  | 109 => ⟨S16384x16, .i32⟩
  | 110 => ⟨S_, .i32⟩
  | 111 => ⟨S16384x16, .i32⟩
  | 112 => ⟨S16384x16, .i32⟩
  | 113 => ⟨S16384x16, .i32⟩
  | 114 => ⟨S16384x16, .i32⟩
  | 115 => ⟨S16384x16, .i32⟩
  | 116 => ⟨S_, .i32⟩
  | 117 => ⟨S16384x16, .i32⟩
  | 118 => ⟨S16384x16, .i32⟩
  | 119 => ⟨S_, .i32⟩
  | 120 => ⟨S16384x16, .i32⟩
  | 121 => ⟨S16384x16, .i32⟩
  | 122 => ⟨S16384x16, .i32⟩
  | 123 => ⟨S16384x16, .i32⟩
  | 124 => ⟨S16384x16, .i32⟩
  | 125 => ⟨S16384x16, .i32⟩
  | 126 => ⟨S16384x16, .i32⟩
  | 127 => ⟨S16384x16, .i32⟩
  | _ => ⟨S16384, .i32⟩

abbrev hbmTy0_6 (i : Nat) : BufTy := match i % 128 with
  | 0 => ⟨S_, .i32⟩
  | 1 => ⟨S16384x16, .i32⟩
  | 2 => ⟨S16384x16, .i32⟩
  | 3 => ⟨S16384x16, .i32⟩
  | 4 => ⟨S_, .i32⟩
  | 5 => ⟨S16384x16, .i32⟩
  | 6 => ⟨S16384x16, .i32⟩
  | 7 => ⟨S_, .i32⟩
  | 8 => ⟨S16384x16, .i32⟩
  | 9 => ⟨S16384x16, .i32⟩
  | 10 => ⟨S16384x16, .i32⟩
  | 11 => ⟨S16384x16, .i32⟩
  | 12 => ⟨S16384x16, .i32⟩
  | 13 => ⟨S_, .i32⟩
  | 14 => ⟨S16384x16, .i32⟩
  | 15 => ⟨S16384x16, .i32⟩
  | 16 => ⟨S_, .i32⟩
  | 17 => ⟨S16384x16, .i32⟩
  | 18 => ⟨S16384x16, .i32⟩
  | 19 => ⟨S16384x16, .i32⟩
  | 20 => ⟨S16384x16, .i32⟩
  | 21 => ⟨S16384x16, .i32⟩
  | 22 => ⟨S_, .i32⟩
  | 23 => ⟨S16384x16, .i32⟩
  | 24 => ⟨S16384x16, .i32⟩
  | 25 => ⟨S_, .i32⟩
  | 26 => ⟨S16384x16, .i32⟩
  | 27 => ⟨S16384x16, .i32⟩
  | 28 => ⟨S16384x16, .i32⟩
  | 29 => ⟨S16384x16, .i32⟩
  | 30 => ⟨S16384x16, .i32⟩
  | 31 => ⟨S_, .i32⟩
  | 32 => ⟨S16384x16, .i32⟩
  | 33 => ⟨S16384x16, .i32⟩
  | 34 => ⟨S_, .i32⟩
  | 35 => ⟨S16384x16, .i32⟩
  | 36 => ⟨S16384x16, .i32⟩
  | 37 => ⟨S16384x16, .i32⟩
  | 38 => ⟨S16384x16, .i32⟩
  | 39 => ⟨S16384x16, .i32⟩
  | 40 => ⟨S16384x16, .i32⟩
  | 41 => ⟨S16384x16, .i32⟩
  | 42 => ⟨S16384x16, .i32⟩
  | 43 => ⟨S_, .i32⟩
  | 44 => ⟨S16384x16, .i32⟩
  | 45 => ⟨S16384x16, .i32⟩
  | 46 => ⟨S16384x16, .i32⟩
  | 47 => ⟨S_, .i32⟩
  | 48 => ⟨S16384x16, .i32⟩
  | 49 => ⟨S16384x16, .i32⟩
  | 50 => ⟨S_, .i32⟩
  | 51 => ⟨S16384x16, .i32⟩
  | 52 => ⟨S16384x16, .i32⟩
  | 53 => ⟨S16384x16, .f32⟩
  | 54 => ⟨S_, .f32⟩
  | 55 => ⟨S16384x16, .f32⟩
  | 56 => ⟨S16384x16, .f32⟩
  | 57 => ⟨S1x1, .f32⟩
  | 58 => ⟨S16384x16, .f32⟩
  | 59 => ⟨S16384x16, .f32⟩
  | 60 => ⟨S16384x16, .f32⟩
  | 61 => ⟨S16384x16, .f32⟩
  | 62 => ⟨S16384x16, .f32⟩
  | 63 => ⟨S16384x16, .f32⟩
  | 64 => ⟨S16384x16, .f32⟩
  | 65 => ⟨S16384x16, .f32⟩
  | 66 => ⟨S16384x16, .f32⟩
  | 67 => ⟨S16384x16, .f32⟩
  | 68 => ⟨S_, .f32⟩
  | 69 => ⟨S16384x16, .f32⟩
  | 70 => ⟨S16384x16, .f32⟩
  | 71 => ⟨S16384x16, .f32⟩
  | 72 => ⟨S16384x16, .f32⟩
  | 73 => ⟨S_, .f32⟩
  | 74 => ⟨S16384x16, .f32⟩
  | 75 => ⟨S16384x16, .f32⟩
  | 76 => ⟨S1, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S_, .f32⟩
  | 84 => ⟨S1, .f32⟩
  | 85 => ⟨S_, .f32⟩
  | 86 => ⟨S1, .f32⟩
  | 87 => ⟨S_, .f32⟩
  | 88 => ⟨S16384x16, .f32⟩
  | 89 => ⟨S16384x16, .f32⟩
  | 90 => ⟨S16384x16, .f32⟩
  | 91 => ⟨S16384x16, .f32⟩
  | 92 => ⟨S16384x16, .f32⟩
  | 93 => ⟨S16384x16, .f32⟩
  | 94 => ⟨S16384x16, .f32⟩
  | 95 => ⟨S16384x16, .f32⟩
  | 96 => ⟨S16384x16, .f32⟩
  | 97 => ⟨S16384x16, .f32⟩
  | 98 => ⟨S16384x16, .f32⟩
  | 99 => ⟨S16384x16, .f32⟩
  | 100 => ⟨S16384x16, .f32⟩
  | 101 => ⟨S16384x16, .f32⟩
  | 102 => ⟨S16384x16, .f32⟩
  | 103 => ⟨S16384x16, .f32⟩
  | 104 => ⟨S16384x16, .f32⟩
  | 105 => ⟨S_, .f32⟩
  | 106 => ⟨S16384x16, .f32⟩
  | 107 => ⟨S16384x16, .f32⟩
  | 108 => ⟨S16384x16, .f32⟩
  | 109 => ⟨S16384x1, .f32⟩
  | 110 => ⟨S1x1, .f32⟩
  | 111 => ⟨S16384x1, .f32⟩
  | 112 => ⟨S16384x1, .f32⟩
  | 113 => ⟨S128x128, .f32⟩
  | _ => ⟨S16384, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_c : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c : Ref sig .tc := ⟨.hbm, 23, rfl⟩
abbrev main_call0_v5 : Ref sig .tc := ⟨.hbm, 24, rfl⟩
abbrev main_call0_v6 : Ref sig .tc := ⟨.hbm, 25, rfl⟩
abbrev main_call0_c_0 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v11_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v11_1 : Ref sig .tc := ⟨.hbm, 252, rfl⟩
abbrev main_call0_v12 : Ref sig .tc := ⟨.hbm, 253, rfl⟩
abbrev main_call0_v13 : Ref sig .tc := ⟨.hbm, 254, rfl⟩
abbrev main_v7 : Ref sig .tc := ⟨.hbm, 255, rfl⟩
abbrev main_v8 : Ref sig .tc := ⟨.hbm, 256, rfl⟩
abbrev main_v9 : Ref sig .tc := ⟨.hbm, 257, rfl⟩
abbrev main_v10 : Ref sig .tc := ⟨.hbm, 258, rfl⟩
abbrev main_v11 : Ref sig .tc := ⟨.hbm, 259, rfl⟩
abbrev main_cst_3 : Ref sig .tc := ⟨.hbm, 260, rfl⟩
abbrev main_cst_4 : Ref sig .tc := ⟨.hbm, 261, rfl⟩
abbrev main_call1_v0 : Ref sig .tc := ⟨.hbm, 262, rfl⟩
abbrev main_call1_v1 : Ref sig .tc := ⟨.hbm, 263, rfl⟩
abbrev main_call1_v2 : Ref sig .tc := ⟨.hbm, 264, rfl⟩
abbrev main_call1_v3 : Ref sig .tc := ⟨.hbm, 265, rfl⟩
abbrev main_call1_v4 : Ref sig .tc := ⟨.hbm, 266, rfl⟩
abbrev main_call1_v5 : Ref sig .tc := ⟨.hbm, 267, rfl⟩
abbrev main_call1_v6 : Ref sig .tc := ⟨.hbm, 268, rfl⟩
abbrev main_call1_v7 : Ref sig .tc := ⟨.hbm, 269, rfl⟩
abbrev main_call1_v8 : Ref sig .tc := ⟨.hbm, 270, rfl⟩
abbrev main_call1_v9 : Ref sig .tc := ⟨.hbm, 271, rfl⟩
abbrev main_call1_c : Ref sig .tc := ⟨.hbm, 272, rfl⟩
abbrev main_call1_v10 : Ref sig .tc := ⟨.hbm, 273, rfl⟩
abbrev main_call1_v11 : Ref sig .tc := ⟨.hbm, 274, rfl⟩
abbrev main_call1_c_0 : Ref sig .tc := ⟨.hbm, 275, rfl⟩
abbrev main_call1_v12 : Ref sig .tc := ⟨.hbm, 276, rfl⟩
abbrev main_call1_v13 : Ref sig .tc := ⟨.hbm, 277, rfl⟩
abbrev main_call1_v14 : Ref sig .tc := ⟨.hbm, 278, rfl⟩
abbrev main_call1_c_1 : Ref sig .tc := ⟨.hbm, 279, rfl⟩
abbrev main_call1_v15 : Ref sig .tc := ⟨.hbm, 280, rfl⟩
abbrev main_call1_v16 : Ref sig .tc := ⟨.hbm, 281, rfl⟩
abbrev main_call1_v17 : Ref sig .tc := ⟨.hbm, 282, rfl⟩
abbrev main_call1_v18 : Ref sig .tc := ⟨.hbm, 283, rfl⟩
abbrev main_call1_call0_v0 : Ref sig .tc := ⟨.hbm, 284, rfl⟩
abbrev main_call1_call0_c : Ref sig .tc := ⟨.hbm, 285, rfl⟩
abbrev main_call1_call0_v1 : Ref sig .tc := ⟨.hbm, 286, rfl⟩
abbrev main_call1_call0_v2 : Ref sig .tc := ⟨.hbm, 287, rfl⟩
abbrev main_call1_call0_v3 : Ref sig .tc := ⟨.hbm, 288, rfl⟩
abbrev main_call1_call0_v4 : Ref sig .tc := ⟨.hbm, 289, rfl⟩
abbrev main_call1_call0_v5 : Ref sig .tc := ⟨.hbm, 290, rfl⟩
abbrev main_call1_call0_v6 : Ref sig .tc := ⟨.hbm, 291, rfl⟩
abbrev main_call1_call0_c_0 : Ref sig .tc := ⟨.hbm, 292, rfl⟩
abbrev main_call1_call0_v7 : Ref sig .tc := ⟨.hbm, 293, rfl⟩
abbrev main_call1_call0_v8 : Ref sig .tc := ⟨.hbm, 294, rfl⟩
abbrev main_call1_call0_c_1 : Ref sig .tc := ⟨.hbm, 295, rfl⟩
abbrev main_call1_call0_v9 : Ref sig .tc := ⟨.hbm, 296, rfl⟩
abbrev main_call1_call0_v10 : Ref sig .tc := ⟨.hbm, 297, rfl⟩
abbrev main_call1_call0_v11 : Ref sig .tc := ⟨.hbm, 298, rfl⟩
abbrev main_call1_call0_v12 : Ref sig .tc := ⟨.hbm, 299, rfl⟩
abbrev main_call1_call0_v13 : Ref sig .tc := ⟨.hbm, 300, rfl⟩
abbrev main_call1_call0_c_2 : Ref sig .tc := ⟨.hbm, 301, rfl⟩
abbrev main_call1_call0_v14 : Ref sig .tc := ⟨.hbm, 302, rfl⟩
abbrev main_call1_call0_v15 : Ref sig .tc := ⟨.hbm, 303, rfl⟩
abbrev main_call1_call0_c_3 : Ref sig .tc := ⟨.hbm, 304, rfl⟩
abbrev main_call1_call0_v16 : Ref sig .tc := ⟨.hbm, 305, rfl⟩
abbrev main_call1_call0_v17 : Ref sig .tc := ⟨.hbm, 306, rfl⟩
abbrev main_call1_call0_v18 : Ref sig .tc := ⟨.hbm, 307, rfl⟩
abbrev main_call1_call0_v19 : Ref sig .tc := ⟨.hbm, 308, rfl⟩
abbrev main_call1_call0_v20 : Ref sig .tc := ⟨.hbm, 309, rfl⟩
abbrev main_call1_call0_c_4 : Ref sig .tc := ⟨.hbm, 310, rfl⟩
abbrev main_call1_call0_v21 : Ref sig .tc := ⟨.hbm, 311, rfl⟩
abbrev main_call1_call0_v22 : Ref sig .tc := ⟨.hbm, 312, rfl⟩
abbrev main_call1_call0_c_5 : Ref sig .tc := ⟨.hbm, 313, rfl⟩
abbrev main_call1_call0_v23 : Ref sig .tc := ⟨.hbm, 314, rfl⟩
abbrev main_call1_call0_v24 : Ref sig .tc := ⟨.hbm, 315, rfl⟩
abbrev main_call1_call0_v25 : Ref sig .tc := ⟨.hbm, 316, rfl⟩
abbrev main_call1_call0_v26 : Ref sig .tc := ⟨.hbm, 317, rfl⟩
abbrev main_call1_call0_v27 : Ref sig .tc := ⟨.hbm, 318, rfl⟩
abbrev main_call1_call0_c_6 : Ref sig .tc := ⟨.hbm, 319, rfl⟩
abbrev main_call1_call0_v28 : Ref sig .tc := ⟨.hbm, 320, rfl⟩
abbrev main_call1_call0_v29 : Ref sig .tc := ⟨.hbm, 321, rfl⟩
abbrev main_call1_call0_c_7 : Ref sig .tc := ⟨.hbm, 322, rfl⟩
abbrev main_call1_call0_v30 : Ref sig .tc := ⟨.hbm, 323, rfl⟩
abbrev main_call1_call0_v31 : Ref sig .tc := ⟨.hbm, 324, rfl⟩
abbrev main_call1_call0_v32 : Ref sig .tc := ⟨.hbm, 325, rfl⟩
abbrev main_call1_call0_v33 : Ref sig .tc := ⟨.hbm, 326, rfl⟩
abbrev main_call1_call0_v34 : Ref sig .tc := ⟨.hbm, 327, rfl⟩
abbrev main_call1_call0_v35 : Ref sig .tc := ⟨.hbm, 328, rfl⟩
abbrev main_call1_call0_v36 : Ref sig .tc := ⟨.hbm, 329, rfl⟩
abbrev main_call1_call0_v37 : Ref sig .tc := ⟨.hbm, 330, rfl⟩
abbrev main_call1_call0_c_8 : Ref sig .tc := ⟨.hbm, 331, rfl⟩
abbrev main_call1_call0_v38 : Ref sig .tc := ⟨.hbm, 332, rfl⟩
abbrev main_call1_call0_v39 : Ref sig .tc := ⟨.hbm, 333, rfl⟩
abbrev main_call1_call0_v40 : Ref sig .tc := ⟨.hbm, 334, rfl⟩
abbrev main_call1_call0_c_9 : Ref sig .tc := ⟨.hbm, 335, rfl⟩
abbrev main_call1_call0_v41 : Ref sig .tc := ⟨.hbm, 336, rfl⟩
abbrev main_call1_call0_v42 : Ref sig .tc := ⟨.hbm, 337, rfl⟩
abbrev main_call1_call0_c_10 : Ref sig .tc := ⟨.hbm, 338, rfl⟩
abbrev main_call1_call0_v43 : Ref sig .tc := ⟨.hbm, 339, rfl⟩
abbrev main_call1_call0_v44 : Ref sig .tc := ⟨.hbm, 340, rfl⟩
abbrev main_call1_call0_v45 : Ref sig .tc := ⟨.hbm, 341, rfl⟩
abbrev main_call1_call0_v46 : Ref sig .tc := ⟨.hbm, 342, rfl⟩
abbrev main_call1_call0_v47 : Ref sig .tc := ⟨.hbm, 343, rfl⟩
abbrev main_call1_call0_c_11 : Ref sig .tc := ⟨.hbm, 344, rfl⟩
abbrev main_call1_call0_v48 : Ref sig .tc := ⟨.hbm, 345, rfl⟩
abbrev main_call1_call0_v49 : Ref sig .tc := ⟨.hbm, 346, rfl⟩
abbrev main_call1_call0_c_12 : Ref sig .tc := ⟨.hbm, 347, rfl⟩
abbrev main_call1_call0_v50 : Ref sig .tc := ⟨.hbm, 348, rfl⟩
abbrev main_call1_call0_v51 : Ref sig .tc := ⟨.hbm, 349, rfl⟩
abbrev main_call1_call0_v52 : Ref sig .tc := ⟨.hbm, 350, rfl⟩
abbrev main_call1_call0_v53 : Ref sig .tc := ⟨.hbm, 351, rfl⟩
abbrev main_call1_call0_v54 : Ref sig .tc := ⟨.hbm, 352, rfl⟩
abbrev main_call1_call0_c_13 : Ref sig .tc := ⟨.hbm, 353, rfl⟩
abbrev main_call1_call0_v55 : Ref sig .tc := ⟨.hbm, 354, rfl⟩
abbrev main_call1_call0_v56 : Ref sig .tc := ⟨.hbm, 355, rfl⟩
abbrev main_call1_call0_c_14 : Ref sig .tc := ⟨.hbm, 356, rfl⟩
abbrev main_call1_call0_v57 : Ref sig .tc := ⟨.hbm, 357, rfl⟩
abbrev main_call1_call0_v58 : Ref sig .tc := ⟨.hbm, 358, rfl⟩
abbrev main_call1_call0_v59 : Ref sig .tc := ⟨.hbm, 359, rfl⟩
abbrev main_call1_call0_v60 : Ref sig .tc := ⟨.hbm, 360, rfl⟩
abbrev main_call1_call0_v61 : Ref sig .tc := ⟨.hbm, 361, rfl⟩
abbrev main_call1_call0_c_15 : Ref sig .tc := ⟨.hbm, 362, rfl⟩
abbrev main_call1_call0_v62 : Ref sig .tc := ⟨.hbm, 363, rfl⟩
abbrev main_call1_call0_v63 : Ref sig .tc := ⟨.hbm, 364, rfl⟩
abbrev main_call1_call0_c_16 : Ref sig .tc := ⟨.hbm, 365, rfl⟩
abbrev main_call1_call0_v64 : Ref sig .tc := ⟨.hbm, 366, rfl⟩
abbrev main_call1_call0_v65 : Ref sig .tc := ⟨.hbm, 367, rfl⟩
abbrev main_call1_call0_v66 : Ref sig .tc := ⟨.hbm, 368, rfl⟩
abbrev main_call1_call0_v67 : Ref sig .tc := ⟨.hbm, 369, rfl⟩
abbrev main_call1_call0_v68 : Ref sig .tc := ⟨.hbm, 370, rfl⟩
abbrev main_call1_call0_v69 : Ref sig .tc := ⟨.hbm, 371, rfl⟩
abbrev main_call1_call0_v70 : Ref sig .tc := ⟨.hbm, 372, rfl⟩
abbrev main_call1_call0_v71 : Ref sig .tc := ⟨.hbm, 373, rfl⟩
abbrev main_call1_call0_c_17 : Ref sig .tc := ⟨.hbm, 374, rfl⟩
abbrev main_call1_call0_v72 : Ref sig .tc := ⟨.hbm, 375, rfl⟩
abbrev main_call1_call0_v73 : Ref sig .tc := ⟨.hbm, 376, rfl⟩
abbrev main_call1_call0_v74 : Ref sig .tc := ⟨.hbm, 377, rfl⟩
abbrev main_call1_call0_c_18 : Ref sig .tc := ⟨.hbm, 378, rfl⟩
abbrev main_call1_call0_v75 : Ref sig .tc := ⟨.hbm, 379, rfl⟩
abbrev main_call1_call0_v76 : Ref sig .tc := ⟨.hbm, 380, rfl⟩
abbrev main_call1_call0_c_19 : Ref sig .tc := ⟨.hbm, 381, rfl⟩
abbrev main_call1_call0_v77 : Ref sig .tc := ⟨.hbm, 382, rfl⟩
abbrev main_call1_call0_v78 : Ref sig .tc := ⟨.hbm, 383, rfl⟩
abbrev main_call1_call0_v79 : Ref sig .tc := ⟨.hbm, 384, rfl⟩
abbrev main_call1_call0_v80 : Ref sig .tc := ⟨.hbm, 385, rfl⟩
abbrev main_call1_call0_v81 : Ref sig .tc := ⟨.hbm, 386, rfl⟩
abbrev main_call1_call0_c_20 : Ref sig .tc := ⟨.hbm, 387, rfl⟩
abbrev main_call1_call0_v82 : Ref sig .tc := ⟨.hbm, 388, rfl⟩
abbrev main_call1_call0_v83 : Ref sig .tc := ⟨.hbm, 389, rfl⟩
abbrev main_call1_call0_c_21 : Ref sig .tc := ⟨.hbm, 390, rfl⟩
abbrev main_call1_call0_v84 : Ref sig .tc := ⟨.hbm, 391, rfl⟩
abbrev main_call1_call0_v85 : Ref sig .tc := ⟨.hbm, 392, rfl⟩
abbrev main_call1_call0_v86 : Ref sig .tc := ⟨.hbm, 393, rfl⟩
abbrev main_call1_call0_v87 : Ref sig .tc := ⟨.hbm, 394, rfl⟩
abbrev main_call1_call0_v88 : Ref sig .tc := ⟨.hbm, 395, rfl⟩
abbrev main_call1_call0_c_22 : Ref sig .tc := ⟨.hbm, 396, rfl⟩
abbrev main_call1_call0_v89 : Ref sig .tc := ⟨.hbm, 397, rfl⟩
abbrev main_call1_call0_v90 : Ref sig .tc := ⟨.hbm, 398, rfl⟩
abbrev main_call1_call0_c_23 : Ref sig .tc := ⟨.hbm, 399, rfl⟩
abbrev main_call1_call0_v91 : Ref sig .tc := ⟨.hbm, 400, rfl⟩
abbrev main_call1_call0_v92 : Ref sig .tc := ⟨.hbm, 401, rfl⟩
abbrev main_call1_call0_v93 : Ref sig .tc := ⟨.hbm, 402, rfl⟩
abbrev main_call1_call0_v94 : Ref sig .tc := ⟨.hbm, 403, rfl⟩
abbrev main_call1_call0_v95 : Ref sig .tc := ⟨.hbm, 404, rfl⟩
abbrev main_call1_call0_c_24 : Ref sig .tc := ⟨.hbm, 405, rfl⟩
abbrev main_call1_call0_v96 : Ref sig .tc := ⟨.hbm, 406, rfl⟩
abbrev main_call1_call0_v97 : Ref sig .tc := ⟨.hbm, 407, rfl⟩
abbrev main_call1_call0_c_25 : Ref sig .tc := ⟨.hbm, 408, rfl⟩
abbrev main_call1_call0_v98 : Ref sig .tc := ⟨.hbm, 409, rfl⟩
abbrev main_call1_call0_v99 : Ref sig .tc := ⟨.hbm, 410, rfl⟩
abbrev main_call1_call0_v100 : Ref sig .tc := ⟨.hbm, 411, rfl⟩
abbrev main_call1_call0_v101 : Ref sig .tc := ⟨.hbm, 412, rfl⟩
abbrev main_call1_call0_v102 : Ref sig .tc := ⟨.hbm, 413, rfl⟩
abbrev main_call1_call0_v103 : Ref sig .tc := ⟨.hbm, 414, rfl⟩
abbrev main_call1_call0_v104 : Ref sig .tc := ⟨.hbm, 415, rfl⟩
abbrev main_call1_call0_v105 : Ref sig .tc := ⟨.hbm, 416, rfl⟩
abbrev main_call1_call0_c_26 : Ref sig .tc := ⟨.hbm, 417, rfl⟩
abbrev main_call1_call0_v106 : Ref sig .tc := ⟨.hbm, 418, rfl⟩
abbrev main_call1_call0_v107 : Ref sig .tc := ⟨.hbm, 419, rfl⟩
abbrev main_call1_call0_v108 : Ref sig .tc := ⟨.hbm, 420, rfl⟩
abbrev main_call1_call0_c_27 : Ref sig .tc := ⟨.hbm, 421, rfl⟩
abbrev main_call1_call0_v109 : Ref sig .tc := ⟨.hbm, 422, rfl⟩
abbrev main_call1_call0_v110 : Ref sig .tc := ⟨.hbm, 423, rfl⟩
abbrev main_call1_call0_c_28 : Ref sig .tc := ⟨.hbm, 424, rfl⟩
abbrev main_call1_call0_v111 : Ref sig .tc := ⟨.hbm, 425, rfl⟩
abbrev main_call1_call0_v112 : Ref sig .tc := ⟨.hbm, 426, rfl⟩
abbrev main_call1_call0_v113 : Ref sig .tc := ⟨.hbm, 427, rfl⟩
abbrev main_call1_call0_v114 : Ref sig .tc := ⟨.hbm, 428, rfl⟩
abbrev main_call1_call0_v115 : Ref sig .tc := ⟨.hbm, 429, rfl⟩
abbrev main_call1_call0_c_29 : Ref sig .tc := ⟨.hbm, 430, rfl⟩
abbrev main_call1_call0_v116 : Ref sig .tc := ⟨.hbm, 431, rfl⟩
abbrev main_call1_call0_v117 : Ref sig .tc := ⟨.hbm, 432, rfl⟩
abbrev main_call1_call0_c_30 : Ref sig .tc := ⟨.hbm, 433, rfl⟩
abbrev main_call1_call0_v118 : Ref sig .tc := ⟨.hbm, 434, rfl⟩
abbrev main_call1_call0_v119 : Ref sig .tc := ⟨.hbm, 435, rfl⟩
abbrev main_call1_call0_v120 : Ref sig .tc := ⟨.hbm, 436, rfl⟩
abbrev main_call1_call0_v121 : Ref sig .tc := ⟨.hbm, 437, rfl⟩
abbrev main_call1_call0_v122 : Ref sig .tc := ⟨.hbm, 438, rfl⟩
abbrev main_call1_call0_c_31 : Ref sig .tc := ⟨.hbm, 439, rfl⟩
abbrev main_call1_call0_v123 : Ref sig .tc := ⟨.hbm, 440, rfl⟩
abbrev main_call1_call0_v124 : Ref sig .tc := ⟨.hbm, 441, rfl⟩
abbrev main_call1_call0_c_32 : Ref sig .tc := ⟨.hbm, 442, rfl⟩
abbrev main_call1_call0_v125 : Ref sig .tc := ⟨.hbm, 443, rfl⟩
abbrev main_call1_call0_v126 : Ref sig .tc := ⟨.hbm, 444, rfl⟩
abbrev main_call1_call0_v127 : Ref sig .tc := ⟨.hbm, 445, rfl⟩
abbrev main_call1_call0_v128 : Ref sig .tc := ⟨.hbm, 446, rfl⟩
abbrev main_call1_call0_v129 : Ref sig .tc := ⟨.hbm, 447, rfl⟩
abbrev main_call1_call0_c_33 : Ref sig .tc := ⟨.hbm, 448, rfl⟩
abbrev main_call1_call0_v130 : Ref sig .tc := ⟨.hbm, 449, rfl⟩
abbrev main_call1_call0_v131 : Ref sig .tc := ⟨.hbm, 450, rfl⟩
abbrev main_call1_call0_c_34 : Ref sig .tc := ⟨.hbm, 451, rfl⟩
abbrev main_call1_call0_v132 : Ref sig .tc := ⟨.hbm, 452, rfl⟩
abbrev main_call1_call0_v133 : Ref sig .tc := ⟨.hbm, 453, rfl⟩
abbrev main_call1_call0_v134 : Ref sig .tc := ⟨.hbm, 454, rfl⟩
abbrev main_call1_call0_v135 : Ref sig .tc := ⟨.hbm, 455, rfl⟩
abbrev main_call1_call0_v136 : Ref sig .tc := ⟨.hbm, 456, rfl⟩
abbrev main_call1_call0_v137 : Ref sig .tc := ⟨.hbm, 457, rfl⟩
abbrev main_call1_call0_v138 : Ref sig .tc := ⟨.hbm, 458, rfl⟩
abbrev main_call1_call0_v139 : Ref sig .tc := ⟨.hbm, 459, rfl⟩
abbrev main_call1_call0_c_35 : Ref sig .tc := ⟨.hbm, 460, rfl⟩
abbrev main_call1_call0_v140 : Ref sig .tc := ⟨.hbm, 461, rfl⟩
abbrev main_call1_call0_v141 : Ref sig .tc := ⟨.hbm, 462, rfl⟩
abbrev main_call1_call0_v142 : Ref sig .tc := ⟨.hbm, 463, rfl⟩
abbrev main_call1_call0_c_36 : Ref sig .tc := ⟨.hbm, 464, rfl⟩
abbrev main_call1_call0_v143 : Ref sig .tc := ⟨.hbm, 465, rfl⟩
abbrev main_call1_call0_v144 : Ref sig .tc := ⟨.hbm, 466, rfl⟩
abbrev main_call1_call0_c_37 : Ref sig .tc := ⟨.hbm, 467, rfl⟩
abbrev main_call1_call0_v145 : Ref sig .tc := ⟨.hbm, 468, rfl⟩
abbrev main_call1_call0_v146 : Ref sig .tc := ⟨.hbm, 469, rfl⟩
abbrev main_call1_call0_v147 : Ref sig .tc := ⟨.hbm, 470, rfl⟩
abbrev main_call1_call0_v148 : Ref sig .tc := ⟨.hbm, 471, rfl⟩
abbrev main_call1_call0_v149 : Ref sig .tc := ⟨.hbm, 472, rfl⟩
abbrev main_call1_call0_c_38 : Ref sig .tc := ⟨.hbm, 473, rfl⟩
abbrev main_call1_call0_v150 : Ref sig .tc := ⟨.hbm, 474, rfl⟩
abbrev main_call1_call0_v151 : Ref sig .tc := ⟨.hbm, 475, rfl⟩
abbrev main_call1_call0_c_39 : Ref sig .tc := ⟨.hbm, 476, rfl⟩
abbrev main_call1_call0_v152 : Ref sig .tc := ⟨.hbm, 477, rfl⟩
abbrev main_call1_call0_v153 : Ref sig .tc := ⟨.hbm, 478, rfl⟩
abbrev main_call1_call0_v154 : Ref sig .tc := ⟨.hbm, 479, rfl⟩
abbrev main_call1_call0_v155 : Ref sig .tc := ⟨.hbm, 480, rfl⟩
abbrev main_call1_call0_v156 : Ref sig .tc := ⟨.hbm, 481, rfl⟩
abbrev main_call1_call0_c_40 : Ref sig .tc := ⟨.hbm, 482, rfl⟩
abbrev main_call1_call0_v157 : Ref sig .tc := ⟨.hbm, 483, rfl⟩
abbrev main_call1_call0_v158 : Ref sig .tc := ⟨.hbm, 484, rfl⟩
abbrev main_call1_call0_c_41 : Ref sig .tc := ⟨.hbm, 485, rfl⟩
abbrev main_call1_call0_v159 : Ref sig .tc := ⟨.hbm, 486, rfl⟩
abbrev main_call1_call0_v160 : Ref sig .tc := ⟨.hbm, 487, rfl⟩
abbrev main_call1_call0_v161 : Ref sig .tc := ⟨.hbm, 488, rfl⟩
abbrev main_call1_call0_v162 : Ref sig .tc := ⟨.hbm, 489, rfl⟩
abbrev main_call1_call0_v163 : Ref sig .tc := ⟨.hbm, 490, rfl⟩
abbrev main_call1_call0_c_42 : Ref sig .tc := ⟨.hbm, 491, rfl⟩
abbrev main_call1_call0_v164 : Ref sig .tc := ⟨.hbm, 492, rfl⟩
abbrev main_call1_call0_v165 : Ref sig .tc := ⟨.hbm, 493, rfl⟩
abbrev main_call1_call0_c_43 : Ref sig .tc := ⟨.hbm, 494, rfl⟩
abbrev main_call1_call0_v166 : Ref sig .tc := ⟨.hbm, 495, rfl⟩
abbrev main_call1_call0_v167 : Ref sig .tc := ⟨.hbm, 496, rfl⟩
abbrev main_call1_call0_v168 : Ref sig .tc := ⟨.hbm, 497, rfl⟩
abbrev main_call1_call0_v169 : Ref sig .tc := ⟨.hbm, 498, rfl⟩
abbrev main_call1_call0_v170 : Ref sig .tc := ⟨.hbm, 499, rfl⟩
abbrev main_call1_v19_0 : Ref sig .tc := ⟨.hbm, 500, rfl⟩
abbrev main_call1_call0_v172 : Ref sig .tc := ⟨.hbm, 501, rfl⟩
abbrev main_call1_call0_v173 : Ref sig .tc := ⟨.hbm, 502, rfl⟩
abbrev main_call1_call0_c_44 : Ref sig .tc := ⟨.hbm, 503, rfl⟩
abbrev main_call1_call0_v174 : Ref sig .tc := ⟨.hbm, 504, rfl⟩
abbrev main_call1_v19_1 : Ref sig .tc := ⟨.hbm, 505, rfl⟩
abbrev main_call1_v20 : Ref sig .tc := ⟨.hbm, 506, rfl⟩
abbrev main_call1_c_2 : Ref sig .tc := ⟨.hbm, 507, rfl⟩
abbrev main_call1_v21 : Ref sig .tc := ⟨.hbm, 508, rfl⟩
abbrev main_call1_v22 : Ref sig .tc := ⟨.hbm, 509, rfl⟩
abbrev main_call1_c_3 : Ref sig .tc := ⟨.hbm, 510, rfl⟩
abbrev main_call1_v23 : Ref sig .tc := ⟨.hbm, 511, rfl⟩
abbrev main_call1_v24 : Ref sig .tc := ⟨.hbm, 512, rfl⟩
abbrev main_call1_v25 : Ref sig .tc := ⟨.hbm, 513, rfl⟩
abbrev main_call1_cst : Ref sig .tc := ⟨.hbm, 514, rfl⟩
abbrev main_call1_v26 : Ref sig .tc := ⟨.hbm, 515, rfl⟩
abbrev main_call1_v27 : Ref sig .tc := ⟨.hbm, 516, rfl⟩
abbrev main_call1_v28 : Ref sig .tc := ⟨.hbm, 517, rfl⟩
abbrev main_call1_v29 : Ref sig .tc := ⟨.hbm, 518, rfl⟩
abbrev main_call1_v30 : Ref sig .tc := ⟨.hbm, 519, rfl⟩
abbrev main_call1_v31 : Ref sig .tc := ⟨.hbm, 520, rfl⟩
abbrev main_call1_v32 : Ref sig .tc := ⟨.hbm, 521, rfl⟩
abbrev main_call1_v33 : Ref sig .tc := ⟨.hbm, 522, rfl⟩
abbrev main_v12 : Ref sig .tc := ⟨.hbm, 523, rfl⟩
abbrev main_v13 : Ref sig .tc := ⟨.hbm, 524, rfl⟩
abbrev main_v14 : Ref sig .tc := ⟨.hbm, 525, rfl⟩
abbrev main_v15 : Ref sig .tc := ⟨.hbm, 526, rfl⟩
abbrev main_v16 : Ref sig .tc := ⟨.hbm, 527, rfl⟩
abbrev main_cst_5 : Ref sig .tc := ⟨.hbm, 528, rfl⟩
abbrev main_v17 : Ref sig .tc := ⟨.hbm, 529, rfl⟩
abbrev main_v18 : Ref sig .tc := ⟨.hbm, 530, rfl⟩
abbrev main_v19 : Ref sig .tc := ⟨.hbm, 531, rfl⟩
abbrev main_v20 : Ref sig .tc := ⟨.hbm, 532, rfl⟩
abbrev main_cst_6 : Ref sig .tc := ⟨.hbm, 533, rfl⟩
abbrev main_v21 : Ref sig .tc := ⟨.hbm, 534, rfl⟩
abbrev main_v22 : Ref sig .tc := ⟨.hbm, 535, rfl⟩
abbrev main_call2_v0 : Ref sig .tc := ⟨.hbm, 536, rfl⟩
abbrev main_call2_v1 : Ref sig .tc := ⟨.hbm, 537, rfl⟩
abbrev main_call2_v2 : Ref sig .tc := ⟨.hbm, 538, rfl⟩
abbrev main_call2_v3 : Ref sig .tc := ⟨.hbm, 539, rfl⟩
abbrev main_call2_v4 : Ref sig .tc := ⟨.hbm, 540, rfl⟩
abbrev main_call2_v5 : Ref sig .tc := ⟨.hbm, 541, rfl⟩
abbrev main_call2_v6 : Ref sig .tc := ⟨.hbm, 542, rfl⟩
abbrev main_call2_v7 : Ref sig .tc := ⟨.hbm, 543, rfl⟩
abbrev main_call2_v8 : Ref sig .tc := ⟨.hbm, 544, rfl⟩
abbrev main_call2_v9 : Ref sig .tc := ⟨.hbm, 545, rfl⟩
abbrev main_call2_v10 : Ref sig .tc := ⟨.hbm, 546, rfl⟩
abbrev main_call2_v11 : Ref sig .tc := ⟨.hbm, 547, rfl⟩
abbrev main_call2_v12 : Ref sig .tc := ⟨.hbm, 548, rfl⟩
abbrev main_call2_v13 : Ref sig .tc := ⟨.hbm, 549, rfl⟩
abbrev main_call2_v14 : Ref sig .tc := ⟨.hbm, 550, rfl⟩
abbrev main_call2_v15 : Ref sig .tc := ⟨.hbm, 551, rfl⟩
abbrev main_call2_v16 : Ref sig .tc := ⟨.hbm, 552, rfl⟩
abbrev main_call2_v17 : Ref sig .tc := ⟨.hbm, 553, rfl⟩
abbrev main_call2_v18 : Ref sig .tc := ⟨.hbm, 554, rfl⟩
abbrev main_call2_v19 : Ref sig .tc := ⟨.hbm, 555, rfl⟩
abbrev main_call2_v20 : Ref sig .tc := ⟨.hbm, 556, rfl⟩
abbrev main_call2_v21 : Ref sig .tc := ⟨.hbm, 557, rfl⟩
abbrev main_call2_v22 : Ref sig .tc := ⟨.hbm, 558, rfl⟩
abbrev main_call2_v23 : Ref sig .tc := ⟨.hbm, 559, rfl⟩
abbrev main_call2_v24 : Ref sig .tc := ⟨.hbm, 560, rfl⟩
abbrev main_call2_v25 : Ref sig .tc := ⟨.hbm, 561, rfl⟩
abbrev main_call2_v26 : Ref sig .tc := ⟨.hbm, 562, rfl⟩
abbrev main_v23 : Ref sig .tc := ⟨.hbm, 563, rfl⟩
abbrev main_v24 : Ref sig .tc := ⟨.hbm, 564, rfl⟩
abbrev main_cst_7 : Ref sig .tc := ⟨.hbm, 565, rfl⟩
abbrev main_v25 : Ref sig .tc := ⟨.hbm, 566, rfl⟩
abbrev main_v26 : Ref sig .tc := ⟨.hbm, 567, rfl⟩
abbrev main_cst_8 : Ref sig .tc := ⟨.hbm, 568, rfl⟩
abbrev main_cst_9 : Ref sig .tc := ⟨.hbm, 569, rfl⟩
abbrev main_call3_v0 : Ref sig .tc := ⟨.hbm, 570, rfl⟩
abbrev main_call3_v1 : Ref sig .tc := ⟨.hbm, 571, rfl⟩
abbrev main_call3_v2 : Ref sig .tc := ⟨.hbm, 572, rfl⟩
abbrev main_call3_v3 : Ref sig .tc := ⟨.hbm, 573, rfl⟩
abbrev main_call3_v4 : Ref sig .tc := ⟨.hbm, 574, rfl⟩
abbrev main_call3_v5 : Ref sig .tc := ⟨.hbm, 575, rfl⟩
abbrev main_call3_v6 : Ref sig .tc := ⟨.hbm, 576, rfl⟩
abbrev main_call3_v7 : Ref sig .tc := ⟨.hbm, 577, rfl⟩
abbrev main_call3_v8 : Ref sig .tc := ⟨.hbm, 578, rfl⟩
abbrev main_call3_v9 : Ref sig .tc := ⟨.hbm, 579, rfl⟩
abbrev main_call3_c : Ref sig .tc := ⟨.hbm, 580, rfl⟩
abbrev main_call3_v10 : Ref sig .tc := ⟨.hbm, 581, rfl⟩
abbrev main_call3_v11 : Ref sig .tc := ⟨.hbm, 582, rfl⟩
abbrev main_call3_c_0 : Ref sig .tc := ⟨.hbm, 583, rfl⟩
abbrev main_call3_v12 : Ref sig .tc := ⟨.hbm, 584, rfl⟩
abbrev main_call3_v13 : Ref sig .tc := ⟨.hbm, 585, rfl⟩
abbrev main_call3_v14 : Ref sig .tc := ⟨.hbm, 586, rfl⟩
abbrev main_call3_c_1 : Ref sig .tc := ⟨.hbm, 587, rfl⟩
abbrev main_call3_v15 : Ref sig .tc := ⟨.hbm, 588, rfl⟩
abbrev main_call3_v16 : Ref sig .tc := ⟨.hbm, 589, rfl⟩
abbrev main_call3_v17 : Ref sig .tc := ⟨.hbm, 590, rfl⟩
abbrev main_call3_v18 : Ref sig .tc := ⟨.hbm, 591, rfl⟩
abbrev main_call3_call0_v0 : Ref sig .tc := ⟨.hbm, 592, rfl⟩
abbrev main_call3_call0_c : Ref sig .tc := ⟨.hbm, 593, rfl⟩
abbrev main_call3_call0_v1 : Ref sig .tc := ⟨.hbm, 594, rfl⟩
abbrev main_call3_call0_v2 : Ref sig .tc := ⟨.hbm, 595, rfl⟩
abbrev main_call3_call0_v3 : Ref sig .tc := ⟨.hbm, 596, rfl⟩
abbrev main_call3_call0_v4 : Ref sig .tc := ⟨.hbm, 597, rfl⟩
abbrev main_call3_call0_v5 : Ref sig .tc := ⟨.hbm, 598, rfl⟩
abbrev main_call3_call0_v6 : Ref sig .tc := ⟨.hbm, 599, rfl⟩
abbrev main_call3_call0_c_0 : Ref sig .tc := ⟨.hbm, 600, rfl⟩
abbrev main_call3_call0_v7 : Ref sig .tc := ⟨.hbm, 601, rfl⟩
abbrev main_call3_call0_v8 : Ref sig .tc := ⟨.hbm, 602, rfl⟩
abbrev main_call3_call0_c_1 : Ref sig .tc := ⟨.hbm, 603, rfl⟩
abbrev main_call3_call0_v9 : Ref sig .tc := ⟨.hbm, 604, rfl⟩
abbrev main_call3_call0_v10 : Ref sig .tc := ⟨.hbm, 605, rfl⟩
abbrev main_call3_call0_v11 : Ref sig .tc := ⟨.hbm, 606, rfl⟩
abbrev main_call3_call0_v12 : Ref sig .tc := ⟨.hbm, 607, rfl⟩
abbrev main_call3_call0_v13 : Ref sig .tc := ⟨.hbm, 608, rfl⟩
abbrev main_call3_call0_c_2 : Ref sig .tc := ⟨.hbm, 609, rfl⟩
abbrev main_call3_call0_v14 : Ref sig .tc := ⟨.hbm, 610, rfl⟩
abbrev main_call3_call0_v15 : Ref sig .tc := ⟨.hbm, 611, rfl⟩
abbrev main_call3_call0_c_3 : Ref sig .tc := ⟨.hbm, 612, rfl⟩
abbrev main_call3_call0_v16 : Ref sig .tc := ⟨.hbm, 613, rfl⟩
abbrev main_call3_call0_v17 : Ref sig .tc := ⟨.hbm, 614, rfl⟩
abbrev main_call3_call0_v18 : Ref sig .tc := ⟨.hbm, 615, rfl⟩
abbrev main_call3_call0_v19 : Ref sig .tc := ⟨.hbm, 616, rfl⟩
abbrev main_call3_call0_v20 : Ref sig .tc := ⟨.hbm, 617, rfl⟩
abbrev main_call3_call0_c_4 : Ref sig .tc := ⟨.hbm, 618, rfl⟩
abbrev main_call3_call0_v21 : Ref sig .tc := ⟨.hbm, 619, rfl⟩
abbrev main_call3_call0_v22 : Ref sig .tc := ⟨.hbm, 620, rfl⟩
abbrev main_call3_call0_c_5 : Ref sig .tc := ⟨.hbm, 621, rfl⟩
abbrev main_call3_call0_v23 : Ref sig .tc := ⟨.hbm, 622, rfl⟩
abbrev main_call3_call0_v24 : Ref sig .tc := ⟨.hbm, 623, rfl⟩
abbrev main_call3_call0_v25 : Ref sig .tc := ⟨.hbm, 624, rfl⟩
abbrev main_call3_call0_v26 : Ref sig .tc := ⟨.hbm, 625, rfl⟩
abbrev main_call3_call0_v27 : Ref sig .tc := ⟨.hbm, 626, rfl⟩
abbrev main_call3_call0_c_6 : Ref sig .tc := ⟨.hbm, 627, rfl⟩
abbrev main_call3_call0_v28 : Ref sig .tc := ⟨.hbm, 628, rfl⟩
abbrev main_call3_call0_v29 : Ref sig .tc := ⟨.hbm, 629, rfl⟩
abbrev main_call3_call0_c_7 : Ref sig .tc := ⟨.hbm, 630, rfl⟩
abbrev main_call3_call0_v30 : Ref sig .tc := ⟨.hbm, 631, rfl⟩
abbrev main_call3_call0_v31 : Ref sig .tc := ⟨.hbm, 632, rfl⟩
abbrev main_call3_call0_v32 : Ref sig .tc := ⟨.hbm, 633, rfl⟩
abbrev main_call3_call0_v33 : Ref sig .tc := ⟨.hbm, 634, rfl⟩
abbrev main_call3_call0_v34 : Ref sig .tc := ⟨.hbm, 635, rfl⟩
abbrev main_call3_call0_v35 : Ref sig .tc := ⟨.hbm, 636, rfl⟩
abbrev main_call3_call0_v36 : Ref sig .tc := ⟨.hbm, 637, rfl⟩
abbrev main_call3_call0_v37 : Ref sig .tc := ⟨.hbm, 638, rfl⟩
abbrev main_call3_call0_c_8 : Ref sig .tc := ⟨.hbm, 639, rfl⟩
abbrev main_call3_call0_v38 : Ref sig .tc := ⟨.hbm, 640, rfl⟩
abbrev main_call3_call0_v39 : Ref sig .tc := ⟨.hbm, 641, rfl⟩
abbrev main_call3_call0_v40 : Ref sig .tc := ⟨.hbm, 642, rfl⟩
abbrev main_call3_call0_c_9 : Ref sig .tc := ⟨.hbm, 643, rfl⟩
abbrev main_call3_call0_v41 : Ref sig .tc := ⟨.hbm, 644, rfl⟩
abbrev main_call3_call0_v42 : Ref sig .tc := ⟨.hbm, 645, rfl⟩
abbrev main_call3_call0_c_10 : Ref sig .tc := ⟨.hbm, 646, rfl⟩
abbrev main_call3_call0_v43 : Ref sig .tc := ⟨.hbm, 647, rfl⟩
abbrev main_call3_call0_v44 : Ref sig .tc := ⟨.hbm, 648, rfl⟩
abbrev main_call3_call0_v45 : Ref sig .tc := ⟨.hbm, 649, rfl⟩
abbrev main_call3_call0_v46 : Ref sig .tc := ⟨.hbm, 650, rfl⟩
abbrev main_call3_call0_v47 : Ref sig .tc := ⟨.hbm, 651, rfl⟩
abbrev main_call3_call0_c_11 : Ref sig .tc := ⟨.hbm, 652, rfl⟩
abbrev main_call3_call0_v48 : Ref sig .tc := ⟨.hbm, 653, rfl⟩
abbrev main_call3_call0_v49 : Ref sig .tc := ⟨.hbm, 654, rfl⟩
abbrev main_call3_call0_c_12 : Ref sig .tc := ⟨.hbm, 655, rfl⟩
abbrev main_call3_call0_v50 : Ref sig .tc := ⟨.hbm, 656, rfl⟩
abbrev main_call3_call0_v51 : Ref sig .tc := ⟨.hbm, 657, rfl⟩
abbrev main_call3_call0_v52 : Ref sig .tc := ⟨.hbm, 658, rfl⟩
abbrev main_call3_call0_v53 : Ref sig .tc := ⟨.hbm, 659, rfl⟩
abbrev main_call3_call0_v54 : Ref sig .tc := ⟨.hbm, 660, rfl⟩
abbrev main_call3_call0_c_13 : Ref sig .tc := ⟨.hbm, 661, rfl⟩
abbrev main_call3_call0_v55 : Ref sig .tc := ⟨.hbm, 662, rfl⟩
abbrev main_call3_call0_v56 : Ref sig .tc := ⟨.hbm, 663, rfl⟩
abbrev main_call3_call0_c_14 : Ref sig .tc := ⟨.hbm, 664, rfl⟩
abbrev main_call3_call0_v57 : Ref sig .tc := ⟨.hbm, 665, rfl⟩
abbrev main_call3_call0_v58 : Ref sig .tc := ⟨.hbm, 666, rfl⟩
abbrev main_call3_call0_v59 : Ref sig .tc := ⟨.hbm, 667, rfl⟩
abbrev main_call3_call0_v60 : Ref sig .tc := ⟨.hbm, 668, rfl⟩
abbrev main_call3_call0_v61 : Ref sig .tc := ⟨.hbm, 669, rfl⟩
abbrev main_call3_call0_c_15 : Ref sig .tc := ⟨.hbm, 670, rfl⟩
abbrev main_call3_call0_v62 : Ref sig .tc := ⟨.hbm, 671, rfl⟩
abbrev main_call3_call0_v63 : Ref sig .tc := ⟨.hbm, 672, rfl⟩
abbrev main_call3_call0_c_16 : Ref sig .tc := ⟨.hbm, 673, rfl⟩
abbrev main_call3_call0_v64 : Ref sig .tc := ⟨.hbm, 674, rfl⟩
abbrev main_call3_call0_v65 : Ref sig .tc := ⟨.hbm, 675, rfl⟩
abbrev main_call3_call0_v66 : Ref sig .tc := ⟨.hbm, 676, rfl⟩
abbrev main_call3_call0_v67 : Ref sig .tc := ⟨.hbm, 677, rfl⟩
abbrev main_call3_call0_v68 : Ref sig .tc := ⟨.hbm, 678, rfl⟩
abbrev main_call3_call0_v69 : Ref sig .tc := ⟨.hbm, 679, rfl⟩
abbrev main_call3_call0_v70 : Ref sig .tc := ⟨.hbm, 680, rfl⟩
abbrev main_call3_call0_v71 : Ref sig .tc := ⟨.hbm, 681, rfl⟩
abbrev main_call3_call0_c_17 : Ref sig .tc := ⟨.hbm, 682, rfl⟩
abbrev main_call3_call0_v72 : Ref sig .tc := ⟨.hbm, 683, rfl⟩
abbrev main_call3_call0_v73 : Ref sig .tc := ⟨.hbm, 684, rfl⟩
abbrev main_call3_call0_v74 : Ref sig .tc := ⟨.hbm, 685, rfl⟩
abbrev main_call3_call0_c_18 : Ref sig .tc := ⟨.hbm, 686, rfl⟩
abbrev main_call3_call0_v75 : Ref sig .tc := ⟨.hbm, 687, rfl⟩
abbrev main_call3_call0_v76 : Ref sig .tc := ⟨.hbm, 688, rfl⟩
abbrev main_call3_call0_c_19 : Ref sig .tc := ⟨.hbm, 689, rfl⟩
abbrev main_call3_call0_v77 : Ref sig .tc := ⟨.hbm, 690, rfl⟩
abbrev main_call3_call0_v78 : Ref sig .tc := ⟨.hbm, 691, rfl⟩
abbrev main_call3_call0_v79 : Ref sig .tc := ⟨.hbm, 692, rfl⟩
abbrev main_call3_call0_v80 : Ref sig .tc := ⟨.hbm, 693, rfl⟩
abbrev main_call3_call0_v81 : Ref sig .tc := ⟨.hbm, 694, rfl⟩
abbrev main_call3_call0_c_20 : Ref sig .tc := ⟨.hbm, 695, rfl⟩
abbrev main_call3_call0_v82 : Ref sig .tc := ⟨.hbm, 696, rfl⟩
abbrev main_call3_call0_v83 : Ref sig .tc := ⟨.hbm, 697, rfl⟩
abbrev main_call3_call0_c_21 : Ref sig .tc := ⟨.hbm, 698, rfl⟩
abbrev main_call3_call0_v84 : Ref sig .tc := ⟨.hbm, 699, rfl⟩
abbrev main_call3_call0_v85 : Ref sig .tc := ⟨.hbm, 700, rfl⟩
abbrev main_call3_call0_v86 : Ref sig .tc := ⟨.hbm, 701, rfl⟩
abbrev main_call3_call0_v87 : Ref sig .tc := ⟨.hbm, 702, rfl⟩
abbrev main_call3_call0_v88 : Ref sig .tc := ⟨.hbm, 703, rfl⟩
abbrev main_call3_call0_c_22 : Ref sig .tc := ⟨.hbm, 704, rfl⟩
abbrev main_call3_call0_v89 : Ref sig .tc := ⟨.hbm, 705, rfl⟩
abbrev main_call3_call0_v90 : Ref sig .tc := ⟨.hbm, 706, rfl⟩
abbrev main_call3_call0_c_23 : Ref sig .tc := ⟨.hbm, 707, rfl⟩
abbrev main_call3_call0_v91 : Ref sig .tc := ⟨.hbm, 708, rfl⟩
abbrev main_call3_call0_v92 : Ref sig .tc := ⟨.hbm, 709, rfl⟩
abbrev main_call3_call0_v93 : Ref sig .tc := ⟨.hbm, 710, rfl⟩
abbrev main_call3_call0_v94 : Ref sig .tc := ⟨.hbm, 711, rfl⟩
abbrev main_call3_call0_v95 : Ref sig .tc := ⟨.hbm, 712, rfl⟩
abbrev main_call3_call0_c_24 : Ref sig .tc := ⟨.hbm, 713, rfl⟩
abbrev main_call3_call0_v96 : Ref sig .tc := ⟨.hbm, 714, rfl⟩
abbrev main_call3_call0_v97 : Ref sig .tc := ⟨.hbm, 715, rfl⟩
abbrev main_call3_call0_c_25 : Ref sig .tc := ⟨.hbm, 716, rfl⟩
abbrev main_call3_call0_v98 : Ref sig .tc := ⟨.hbm, 717, rfl⟩
abbrev main_call3_call0_v99 : Ref sig .tc := ⟨.hbm, 718, rfl⟩
abbrev main_call3_call0_v100 : Ref sig .tc := ⟨.hbm, 719, rfl⟩
abbrev main_call3_call0_v101 : Ref sig .tc := ⟨.hbm, 720, rfl⟩
abbrev main_call3_call0_v102 : Ref sig .tc := ⟨.hbm, 721, rfl⟩
abbrev main_call3_call0_v103 : Ref sig .tc := ⟨.hbm, 722, rfl⟩
abbrev main_call3_call0_v104 : Ref sig .tc := ⟨.hbm, 723, rfl⟩
abbrev main_call3_call0_v105 : Ref sig .tc := ⟨.hbm, 724, rfl⟩
abbrev main_call3_call0_c_26 : Ref sig .tc := ⟨.hbm, 725, rfl⟩
abbrev main_call3_call0_v106 : Ref sig .tc := ⟨.hbm, 726, rfl⟩
abbrev main_call3_call0_v107 : Ref sig .tc := ⟨.hbm, 727, rfl⟩
abbrev main_call3_call0_v108 : Ref sig .tc := ⟨.hbm, 728, rfl⟩
abbrev main_call3_call0_c_27 : Ref sig .tc := ⟨.hbm, 729, rfl⟩
abbrev main_call3_call0_v109 : Ref sig .tc := ⟨.hbm, 730, rfl⟩
abbrev main_call3_call0_v110 : Ref sig .tc := ⟨.hbm, 731, rfl⟩
abbrev main_call3_call0_c_28 : Ref sig .tc := ⟨.hbm, 732, rfl⟩
abbrev main_call3_call0_v111 : Ref sig .tc := ⟨.hbm, 733, rfl⟩
abbrev main_call3_call0_v112 : Ref sig .tc := ⟨.hbm, 734, rfl⟩
abbrev main_call3_call0_v113 : Ref sig .tc := ⟨.hbm, 735, rfl⟩
abbrev main_call3_call0_v114 : Ref sig .tc := ⟨.hbm, 736, rfl⟩
abbrev main_call3_call0_v115 : Ref sig .tc := ⟨.hbm, 737, rfl⟩
abbrev main_call3_call0_c_29 : Ref sig .tc := ⟨.hbm, 738, rfl⟩
abbrev main_call3_call0_v116 : Ref sig .tc := ⟨.hbm, 739, rfl⟩
abbrev main_call3_call0_v117 : Ref sig .tc := ⟨.hbm, 740, rfl⟩
abbrev main_call3_call0_c_30 : Ref sig .tc := ⟨.hbm, 741, rfl⟩
abbrev main_call3_call0_v118 : Ref sig .tc := ⟨.hbm, 742, rfl⟩
abbrev main_call3_call0_v119 : Ref sig .tc := ⟨.hbm, 743, rfl⟩
abbrev main_call3_call0_v120 : Ref sig .tc := ⟨.hbm, 744, rfl⟩
abbrev main_call3_call0_v121 : Ref sig .tc := ⟨.hbm, 745, rfl⟩
abbrev main_call3_call0_v122 : Ref sig .tc := ⟨.hbm, 746, rfl⟩
abbrev main_call3_call0_c_31 : Ref sig .tc := ⟨.hbm, 747, rfl⟩
abbrev main_call3_call0_v123 : Ref sig .tc := ⟨.hbm, 748, rfl⟩
abbrev main_call3_call0_v124 : Ref sig .tc := ⟨.hbm, 749, rfl⟩
abbrev main_call3_call0_c_32 : Ref sig .tc := ⟨.hbm, 750, rfl⟩
abbrev main_call3_call0_v125 : Ref sig .tc := ⟨.hbm, 751, rfl⟩
abbrev main_call3_call0_v126 : Ref sig .tc := ⟨.hbm, 752, rfl⟩
abbrev main_call3_call0_v127 : Ref sig .tc := ⟨.hbm, 753, rfl⟩
abbrev main_call3_call0_v128 : Ref sig .tc := ⟨.hbm, 754, rfl⟩
abbrev main_call3_call0_v129 : Ref sig .tc := ⟨.hbm, 755, rfl⟩
abbrev main_call3_call0_c_33 : Ref sig .tc := ⟨.hbm, 756, rfl⟩
abbrev main_call3_call0_v130 : Ref sig .tc := ⟨.hbm, 757, rfl⟩
abbrev main_call3_call0_v131 : Ref sig .tc := ⟨.hbm, 758, rfl⟩
abbrev main_call3_call0_c_34 : Ref sig .tc := ⟨.hbm, 759, rfl⟩
abbrev main_call3_call0_v132 : Ref sig .tc := ⟨.hbm, 760, rfl⟩
abbrev main_call3_call0_v133 : Ref sig .tc := ⟨.hbm, 761, rfl⟩
abbrev main_call3_call0_v134 : Ref sig .tc := ⟨.hbm, 762, rfl⟩
abbrev main_call3_call0_v135 : Ref sig .tc := ⟨.hbm, 763, rfl⟩
abbrev main_call3_call0_v136 : Ref sig .tc := ⟨.hbm, 764, rfl⟩
abbrev main_call3_call0_v137 : Ref sig .tc := ⟨.hbm, 765, rfl⟩
abbrev main_call3_call0_v138 : Ref sig .tc := ⟨.hbm, 766, rfl⟩
abbrev main_call3_call0_v139 : Ref sig .tc := ⟨.hbm, 767, rfl⟩
abbrev main_call3_call0_c_35 : Ref sig .tc := ⟨.hbm, 768, rfl⟩
abbrev main_call3_call0_v140 : Ref sig .tc := ⟨.hbm, 769, rfl⟩
abbrev main_call3_call0_v141 : Ref sig .tc := ⟨.hbm, 770, rfl⟩
abbrev main_call3_call0_v142 : Ref sig .tc := ⟨.hbm, 771, rfl⟩
abbrev main_call3_call0_c_36 : Ref sig .tc := ⟨.hbm, 772, rfl⟩
abbrev main_call3_call0_v143 : Ref sig .tc := ⟨.hbm, 773, rfl⟩
abbrev main_call3_call0_v144 : Ref sig .tc := ⟨.hbm, 774, rfl⟩
abbrev main_call3_call0_c_37 : Ref sig .tc := ⟨.hbm, 775, rfl⟩
abbrev main_call3_call0_v145 : Ref sig .tc := ⟨.hbm, 776, rfl⟩
abbrev main_call3_call0_v146 : Ref sig .tc := ⟨.hbm, 777, rfl⟩
abbrev main_call3_call0_v147 : Ref sig .tc := ⟨.hbm, 778, rfl⟩
abbrev main_call3_call0_v148 : Ref sig .tc := ⟨.hbm, 779, rfl⟩
abbrev main_call3_call0_v149 : Ref sig .tc := ⟨.hbm, 780, rfl⟩
abbrev main_call3_call0_c_38 : Ref sig .tc := ⟨.hbm, 781, rfl⟩
abbrev main_call3_call0_v150 : Ref sig .tc := ⟨.hbm, 782, rfl⟩
abbrev main_call3_call0_v151 : Ref sig .tc := ⟨.hbm, 783, rfl⟩
abbrev main_call3_call0_c_39 : Ref sig .tc := ⟨.hbm, 784, rfl⟩
abbrev main_call3_call0_v152 : Ref sig .tc := ⟨.hbm, 785, rfl⟩
abbrev main_call3_call0_v153 : Ref sig .tc := ⟨.hbm, 786, rfl⟩
abbrev main_call3_call0_v154 : Ref sig .tc := ⟨.hbm, 787, rfl⟩
abbrev main_call3_call0_v155 : Ref sig .tc := ⟨.hbm, 788, rfl⟩
abbrev main_call3_call0_v156 : Ref sig .tc := ⟨.hbm, 789, rfl⟩
abbrev main_call3_call0_c_40 : Ref sig .tc := ⟨.hbm, 790, rfl⟩
abbrev main_call3_call0_v157 : Ref sig .tc := ⟨.hbm, 791, rfl⟩
abbrev main_call3_call0_v158 : Ref sig .tc := ⟨.hbm, 792, rfl⟩
abbrev main_call3_call0_c_41 : Ref sig .tc := ⟨.hbm, 793, rfl⟩
abbrev main_call3_call0_v159 : Ref sig .tc := ⟨.hbm, 794, rfl⟩
abbrev main_call3_call0_v160 : Ref sig .tc := ⟨.hbm, 795, rfl⟩
abbrev main_call3_call0_v161 : Ref sig .tc := ⟨.hbm, 796, rfl⟩
abbrev main_call3_call0_v162 : Ref sig .tc := ⟨.hbm, 797, rfl⟩
abbrev main_call3_call0_v163 : Ref sig .tc := ⟨.hbm, 798, rfl⟩
abbrev main_call3_call0_c_42 : Ref sig .tc := ⟨.hbm, 799, rfl⟩
abbrev main_call3_call0_v164 : Ref sig .tc := ⟨.hbm, 800, rfl⟩
abbrev main_call3_call0_v165 : Ref sig .tc := ⟨.hbm, 801, rfl⟩
abbrev main_call3_call0_c_43 : Ref sig .tc := ⟨.hbm, 802, rfl⟩
abbrev main_call3_call0_v166 : Ref sig .tc := ⟨.hbm, 803, rfl⟩
abbrev main_call3_call0_v167 : Ref sig .tc := ⟨.hbm, 804, rfl⟩
abbrev main_call3_call0_v168 : Ref sig .tc := ⟨.hbm, 805, rfl⟩
abbrev main_call3_call0_v169 : Ref sig .tc := ⟨.hbm, 806, rfl⟩
abbrev main_call3_call0_v170 : Ref sig .tc := ⟨.hbm, 807, rfl⟩
abbrev main_call3_v19_0 : Ref sig .tc := ⟨.hbm, 808, rfl⟩
abbrev main_call3_call0_v172 : Ref sig .tc := ⟨.hbm, 809, rfl⟩
abbrev main_call3_call0_v173 : Ref sig .tc := ⟨.hbm, 810, rfl⟩
abbrev main_call3_call0_c_44 : Ref sig .tc := ⟨.hbm, 811, rfl⟩
abbrev main_call3_call0_v174 : Ref sig .tc := ⟨.hbm, 812, rfl⟩
abbrev main_call3_v19_1 : Ref sig .tc := ⟨.hbm, 813, rfl⟩
abbrev main_call3_v20 : Ref sig .tc := ⟨.hbm, 814, rfl⟩
abbrev main_call3_c_2 : Ref sig .tc := ⟨.hbm, 815, rfl⟩
abbrev main_call3_v21 : Ref sig .tc := ⟨.hbm, 816, rfl⟩
abbrev main_call3_v22 : Ref sig .tc := ⟨.hbm, 817, rfl⟩
abbrev main_call3_c_3 : Ref sig .tc := ⟨.hbm, 818, rfl⟩
abbrev main_call3_v23 : Ref sig .tc := ⟨.hbm, 819, rfl⟩
abbrev main_call3_v24 : Ref sig .tc := ⟨.hbm, 820, rfl⟩
abbrev main_call3_v25 : Ref sig .tc := ⟨.hbm, 821, rfl⟩
abbrev main_call3_cst : Ref sig .tc := ⟨.hbm, 822, rfl⟩
abbrev main_call3_v26 : Ref sig .tc := ⟨.hbm, 823, rfl⟩
abbrev main_call3_v27 : Ref sig .tc := ⟨.hbm, 824, rfl⟩
abbrev main_call3_v28 : Ref sig .tc := ⟨.hbm, 825, rfl⟩
abbrev main_call3_v29 : Ref sig .tc := ⟨.hbm, 826, rfl⟩
abbrev main_call3_v30 : Ref sig .tc := ⟨.hbm, 827, rfl⟩
abbrev main_call3_v31 : Ref sig .tc := ⟨.hbm, 828, rfl⟩
abbrev main_call3_v32 : Ref sig .tc := ⟨.hbm, 829, rfl⟩
abbrev main_call3_v33 : Ref sig .tc := ⟨.hbm, 830, rfl⟩
abbrev main_v27 : Ref sig .tc := ⟨.hbm, 831, rfl⟩
abbrev main_v28 : Ref sig .tc := ⟨.hbm, 832, rfl⟩
abbrev main_v29 : Ref sig .tc := ⟨.hbm, 833, rfl⟩
abbrev main_v30 : Ref sig .tc := ⟨.hbm, 834, rfl⟩
abbrev main_v31 : Ref sig .tc := ⟨.hbm, 835, rfl⟩
abbrev main_cst_10 : Ref sig .tc := ⟨.hbm, 836, rfl⟩
abbrev main_v32 : Ref sig .tc := ⟨.hbm, 837, rfl⟩
abbrev main_v33 : Ref sig .tc := ⟨.hbm, 838, rfl⟩
abbrev main_v34 : Ref sig .tc := ⟨.hbm, 839, rfl⟩
abbrev main_v35 : Ref sig .tc := ⟨.hbm, 840, rfl⟩
abbrev main_cst_11 : Ref sig .tc := ⟨.hbm, 841, rfl⟩
abbrev main_v36 : Ref sig .tc := ⟨.hbm, 842, rfl⟩
abbrev main_v37 : Ref sig .tc := ⟨.hbm, 843, rfl⟩
abbrev main_call4_v0 : Ref sig .tc := ⟨.hbm, 844, rfl⟩
abbrev main_call4_v1 : Ref sig .tc := ⟨.hbm, 845, rfl⟩
abbrev main_call4_v2 : Ref sig .tc := ⟨.hbm, 846, rfl⟩
abbrev main_call4_v3 : Ref sig .tc := ⟨.hbm, 847, rfl⟩
abbrev main_call4_v4 : Ref sig .tc := ⟨.hbm, 848, rfl⟩
abbrev main_call4_v5 : Ref sig .tc := ⟨.hbm, 849, rfl⟩
abbrev main_call4_v6 : Ref sig .tc := ⟨.hbm, 850, rfl⟩
abbrev main_call4_v7 : Ref sig .tc := ⟨.hbm, 851, rfl⟩
abbrev main_call4_v8 : Ref sig .tc := ⟨.hbm, 852, rfl⟩
abbrev main_call4_v9 : Ref sig .tc := ⟨.hbm, 853, rfl⟩
abbrev main_call4_v10 : Ref sig .tc := ⟨.hbm, 854, rfl⟩
abbrev main_call4_v11 : Ref sig .tc := ⟨.hbm, 855, rfl⟩
abbrev main_call4_v12 : Ref sig .tc := ⟨.hbm, 856, rfl⟩
abbrev main_call4_v13 : Ref sig .tc := ⟨.hbm, 857, rfl⟩
abbrev main_call4_v14 : Ref sig .tc := ⟨.hbm, 858, rfl⟩
abbrev main_call4_v15 : Ref sig .tc := ⟨.hbm, 859, rfl⟩
abbrev main_call4_v16 : Ref sig .tc := ⟨.hbm, 860, rfl⟩
abbrev main_call4_v17 : Ref sig .tc := ⟨.hbm, 861, rfl⟩
abbrev main_call4_v18 : Ref sig .tc := ⟨.hbm, 862, rfl⟩
abbrev main_call4_v19 : Ref sig .tc := ⟨.hbm, 863, rfl⟩
abbrev main_call4_v20 : Ref sig .tc := ⟨.hbm, 864, rfl⟩
abbrev main_call4_v21 : Ref sig .tc := ⟨.hbm, 865, rfl⟩
abbrev main_call4_v22 : Ref sig .tc := ⟨.hbm, 866, rfl⟩
abbrev main_call4_v23 : Ref sig .tc := ⟨.hbm, 867, rfl⟩
abbrev main_call4_v24 : Ref sig .tc := ⟨.hbm, 868, rfl⟩
abbrev main_call4_v25 : Ref sig .tc := ⟨.hbm, 869, rfl⟩
abbrev main_call4_v26 : Ref sig .tc := ⟨.hbm, 870, rfl⟩
abbrev main_v38 : Ref sig .tc := ⟨.hbm, 871, rfl⟩
abbrev main_v39 : Ref sig .tc := ⟨.hbm, 872, rfl⟩
abbrev main_cst_12 : Ref sig .tc := ⟨.hbm, 873, rfl⟩
abbrev main_v40 : Ref sig .tc := ⟨.hbm, 874, rfl⟩
abbrev main_v41 : Ref sig .tc := ⟨.hbm, 875, rfl⟩
abbrev main_v42 : Ref sig .tc := ⟨.hbm, 876, rfl⟩
abbrev main_v43 : Ref sig .tc := ⟨.hbm, 877, rfl⟩
abbrev main_v44 : Ref sig .tc := ⟨.hbm, 878, rfl⟩
abbrev main_v45 : Ref sig .tc := ⟨.hbm, 879, rfl⟩
abbrev main_v46 : Ref sig .tc := ⟨.hbm, 880, rfl⟩
abbrev main_v47 : Ref sig .tc := ⟨.hbm, 881, rfl⟩

abbrev nD : Nat := 1
abbrev τ : Topo := Topo.v7x

variable {F : FTy → Type} [FloatOps F]
-- ==== Proof.Line.lean ====
/-
  Straight lines of tensor operations, read as equations.

  A reference program writes every buffer once, in the order of the buffers' numbers, and an operation reads only
  buffers of smaller number. The memory such a line leaves is therefore a fixed point of every one of its operations,
  and each operation's equation `result = f operands` holds of that ONE memory. `Line p` is what this file needs to
  know of a program `p`: its operations, what each writes and reads, and the facts their equations amount to. One
  combinator per form of statement builds it.
-/
module

public import Idealize.ShloMosaic.Lib.StableHlo.Run

@[expose] public section

noncomputable section

namespace Line01

open Idealize.ShloMosaic Idealize.ShloMosaic.TcCoe Idealize.ShloMosaic.StableHlo Idealize.SL.Sem

variable {nD : Nat} {τ : Topo} {sig : RefSig} {Val : EltTy → Type} {Λ : Labels}

/-- A buffer's number. -/
def rank (r : Ref sig .tc) : Nat := r.idx.val

/-- What the memory `M` holds at a typed reference. -/
def get {T : BufTy} (M : Valuation τ sig Val) (x : TRef sig T) : T.Contents Val :=
  x.ofBuf (M (Proc.devRef .tc x.ref))

/-- The operation writes the one buffer `t.1`, determines it from the buffers `t.2`, and touches only tensor
    buffers. -/
structure Ok (op : HloOp τ sig Val) (t : Ref sig .tc × List (Ref sig .tc)) : Prop where
  writes : op.writes = {Proc.devRef .tc t.1}
  bufs : op.bufs ⊆ tcRefs τ sig
  fresh : op.fresh = ∅
  congr : ∀ F G : Valuation τ sig Val, (∀ r ∈ t.2, F (Proc.devRef .tc r) = G (Proc.devRef .tc r)) →
    op.result F (Proc.devRef .tc t.1) = op.result G (Proc.devRef .tc t.1)

/-- Each buffer is written once, in the order of the numbers from `lo` on, and read only later. -/
def ordered : Nat → List (Ref sig .tc × List (Ref sig .tc)) → Bool
  | _, [] => true
  | lo, t :: ts => decide (lo ≤ rank t.1) && t.2.all (fun r => decide (rank r < rank t.1)) && ordered (rank t.1 + 1) ts

/-- Every pair of corresponding entries of the two lists is related. -/
def Both : List (HloOp τ sig Val) → List (Ref sig .tc × List (Ref sig .tc)) → Prop
  | [], [] => True
  | op :: ops, t :: ts => Ok op t ∧ Both ops ts
  | _, _ => False

theorem Both.append {o₁ o₂ : List (HloOp τ sig Val)} {t₁ t₂ : List (Ref sig .tc × List (Ref sig .tc))}
    (h₁ : Both o₁ t₁) (h₂ : Both o₂ t₂) : Both (o₁ ++ o₂) (t₁ ++ t₂) := by
  induction o₁ generalizing t₁ with
  | nil => cases t₁ with | nil => exact h₂ | cons _ _ => exact h₁.elim
  | cons op ops ih => cases t₁ with | nil => exact h₁.elim | cons t ts => exact ⟨h₁.1, ih h₁.2⟩

theorem Both.bufs : ∀ {ops : List (HloOp τ sig Val)} {ts : List (Ref sig .tc × List (Ref sig .tc))}, Both ops ts →
    ops.Forall fun op => op.bufs ⊆ tcRefs τ sig
  | [], _, _ => trivial
  | op :: ops, [], h => h.elim
  | op :: ops, t :: ts, h => (List.forall_cons _ _ _).mpr ⟨h.1.bufs, Both.bufs h.2⟩

theorem Both.fresh : ∀ {ops : List (HloOp τ sig Val)} {ts : List (Ref sig .tc × List (Ref sig .tc))}, Both ops ts →
    ∀ op ∈ ops, op.fresh = ∅
  | [], _, _, _, h => nomatch h
  | op :: ops, [], h, _, _ => h.elim
  | op :: ops, t :: ts, h, o, ho => by
    rcases List.mem_cons.mp ho with rfl | ho
    · exact h.1.fresh
    · exact Both.fresh h.2 o ho

/-- A buffer of a number below all that an ordered line writes keeps its contents. -/
theorem after_below : ∀ {ops : List (HloOp τ sig Val)} {ts : List (Ref sig .tc × List (Ref sig .tc))} {lo : Nat}
    (_ : Both ops ts) (_ : ordered lo ts = true) (V : Valuation τ sig Val) (r : Ref sig .tc) (_ : rank r < lo),
    after ops V (Proc.devRef .tc r) = V (Proc.devRef .tc r)
  | [], _, _, _, _, _, _, _ => rfl
  | op :: ops, [], _, h, _, _, _, _ => h.elim
  | op :: ops, t :: ts, lo, h, ho, V, r, hr => by
    simp only [ordered, Bool.and_eq_true, decide_eq_true_eq] at ho
    have hlt : rank r < rank t.1 := lt_of_lt_of_le hr ho.1.1
    rw [after_cons, after_below h.2 ho.2 _ r (Nat.lt_succ_of_lt hlt)]
    exact result_of_writes_ne op V t.1 r h.1.writes fun e => by rw [e] at hlt; exact lt_irrefl _ hlt

/-- The memory an ordered line leaves is a fixed point of each of its operations. -/
theorem after_fixed : ∀ {ops : List (HloOp τ sig Val)} {ts : List (Ref sig .tc × List (Ref sig .tc))} {lo : Nat}
    (_ : Both ops ts) (_ : ordered lo ts = true) (V : Valuation τ sig Val),
    ∀ op ∈ ops, op.result (after ops V) = after ops V
  | [], _, _, _, _, _, _, h => nomatch h
  | op :: ops, [], _, h, _, _, _, _ => h.elim
  | op :: ops, t :: ts, lo, h, ho, V, o, hmem => by
    simp only [ordered, Bool.and_eq_true, decide_eq_true_eq, List.all_eq_true] at ho
    rcases List.mem_cons.mp hmem with rfl | hmem
    · funext b
      by_cases hb : b ∈ o.writes
      · rw [h.1.writes, Finset.mem_singleton] at hb
        subst hb
        rw [after_cons, after_below h.2 ho.2 (o.result V) t.1 (Nat.lt_succ_self _)]
        refine h.1.congr _ _ fun r hr => ?_
        have hlt : rank r < rank t.1 := ho.1.2 r hr
        rw [after_below h.2 ho.2 (o.result V) r (Nat.lt_succ_of_lt hlt)]
        exact result_of_writes_ne o V t.1 r h.1.writes fun e => by rw [e] at hlt; exact lt_irrefl _ hlt
      · exact o.result_of_not_mem _ hb
    · exact after_fixed h.2 ho.2 (op.result V) o hmem

/-- A program that is a straight line of operations, with what its equations amount to. -/
structure Line (p : Prog (TpuEff nD τ sig Val Λ .tc) PUnit) where
  ops : List (HloOp τ sig Val)
  trace : List (Ref sig .tc × List (Ref sig .tc))
  eq : p = seq ops
  both : Both ops trace
  facts : Valuation τ sig Val → Prop
  sound : ∀ M, (∀ op ∈ ops, op.result M = M) → facts M

/-- One operation with what its equation says. -/
structure Eqn (op : HloOp τ sig Val) (P : Valuation τ sig Val → Prop) where
  at_ : Ref sig .tc × List (Ref sig .tc)
  ok : Ok op at_
  sound : ∀ M, op.result M = M → P M

section Eqns

variable {T A B : BufTy} {a b x y : Ref sig .tc}

def Eqn.nullary (v : y.ty.Contents Val) (hy) :
    Eqn (τ := τ) (StableHlo.nullary y v hy) fun M => M (Proc.devRef .tc y) = v where
  at_ := (y, [])
  ok := ⟨rfl, nullary_bufs_sub y v hy, rfl, fun F G _ => by rw [nullary_result, nullary_result]⟩
  sound M h := (congrFun h _).symm.trans (nullary_result y v hy M)

def Eqn.unary (f : x.ty.Contents Val → y.ty.Contents Val) (hx hy) :
    Eqn (τ := τ) (StableHlo.unary x y f hx hy) fun M => M (Proc.devRef .tc y) = f (M (Proc.devRef .tc x)) where
  at_ := (y, [x])
  ok := ⟨rfl, unary_bufs_sub x y f hx hy, rfl, fun F G h => by
    rw [unary_result, unary_result, h x (List.mem_cons_self ..)]⟩
  sound M h := (congrFun h _).symm.trans (unary_result x y f hx hy M)

def Eqn.binary (f : a.ty.Contents Val → b.ty.Contents Val → y.ty.Contents Val) (ha hb hy) :
    Eqn (τ := τ) (StableHlo.binary a b y f ha hb hy)
      fun M => M (Proc.devRef .tc y) = f (M (Proc.devRef .tc a)) (M (Proc.devRef .tc b)) where
  at_ := (y, [a, b])
  ok := ⟨rfl, binary_bufs_sub a b y f ha hb hy, rfl, fun F G h => by
    rw [binary_result, binary_result, h a (List.mem_cons_self ..), h b (List.mem_cons_of_mem _ (List.mem_cons_self ..))]⟩
  sound M h := (congrFun h _).symm.trans (binary_result a b y f ha hb hy M)

def Eqn.reshape (he : x.ty.elt = y.ty.elt) (hn : x.ty.shape.ShapeCasts y.ty.shape) (hx hy) :
    Eqn (τ := τ) (Val := Val) (StableHlo.reshape x y he hn hx hy)
      fun M => M (Proc.devRef .tc y) = fun i => he ▸ shapeCast y.ty.shape (M (Proc.devRef .tc x)) hn i where
  at_ := (y, [x])
  ok := ⟨rfl, reshape_bufs_sub x y he hn hx hy, rfl, fun F G h => by
    rw [reshape_result, reshape_result, h x (List.mem_cons_self ..)]⟩
  sound M h := (congrFun h _).symm.trans (reshape_result x y he hn hx hy M)

theorem ofBuf_toBuf (y : TRef sig T) (v : T.Contents Val) : y.ofBuf (y.toBuf v) = v := by
  rcases y with ⟨r, rfl, _, _⟩; rfl

def Eqn.tnullary (y : TRef sig T) (v : T.Contents Val) :
    Eqn (τ := τ) (TRef.nullary y v) fun M => get M y = v where
  at_ := (y.ref, [])
  ok := (Eqn.nullary (y.toBuf v) y.dev).ok
  sound M h := (congrArg y.ofBuf ((Eqn.nullary _ _).sound M h)).trans (ofBuf_toBuf y v)

def Eqn.tunary (x : TRef sig A) (y : TRef sig T) (f : A.Contents Val → T.Contents Val) :
    Eqn (τ := τ) (TRef.unary x y f) fun M => get M y = f (get M x) where
  at_ := (y.ref, [x.ref])
  ok := (Eqn.unary (fun u => y.toBuf (f (x.ofBuf u))) x.dev y.dev).ok
  sound M h := (congrArg y.ofBuf ((Eqn.unary _ _ _).sound M h)).trans (ofBuf_toBuf y _)

def Eqn.tbinary (a : TRef sig A) (b : TRef sig B) (y : TRef sig T)
    (f : A.Contents Val → B.Contents Val → T.Contents Val) :
    Eqn (τ := τ) (TRef.binary a b y f) fun M => get M y = f (get M a) (get M b) where
  at_ := (y.ref, [a.ref, b.ref])
  ok := (Eqn.binary (fun u v => y.toBuf (f (a.ofBuf u) (b.ofBuf v))) a.dev b.dev y.dev).ok
  sound M h := (congrArg y.ofBuf ((Eqn.binary _ _ _ _).sound M h)).trans (ofBuf_toBuf y _)

def Eqn.treshape (x : TRef sig A) (y : TRef sig T) (he : A.elt = T.elt) (hn : A.shape.ShapeCasts T.shape) :
    Eqn (τ := τ) (Val := Val) (TRef.reshape x y he hn)
      fun M => get M y = fun i => he ▸ shapeCast T.shape (get M x) hn i where
  at_ := (y.ref, [x.ref])
  ok := (Eqn.reshape _ _ _ _).ok
  sound M h := by
    have h' := (Eqn.reshape _ _ _ _).sound M h
    rcases x with ⟨x, rfl, _, _⟩
    rcases y with ⟨y, rfl, _, _⟩
    exact h'

end Eqns

namespace Line

variable {p q : Prog (TpuEff nD τ sig Val Λ .tc) PUnit}

/-- The empty line. -/
def ret : Line (nD := nD) (τ := τ) (sig := sig) (Val := Val) (Λ := Λ) (pure ⟨⟩) where
  ops := []
  trace := []
  eq := rfl
  both := trivial
  facts _ := True
  sound _ _ := trivial

/-- An operation, then a line. -/
def cons {op : HloOp τ sig Val} {P : Valuation τ sig Val → Prop} (e : Eqn op P) (k : Line p) :
    Line ((hlo rfl op fun _ => .ret (⟨⟩ : PUnit)) >>= fun _ => p) where
  ops := op :: k.ops
  trace := e.at_ :: k.trace
  eq := by rw [seq, ← k.eq]
  both := ⟨e.ok, k.both⟩
  facts M := P M ∧ k.facts M
  sound M h := ⟨e.sound M (h op (List.mem_cons_self ..)), k.sound M fun o ho => h o (List.mem_cons_of_mem _ ho)⟩

/-- A last operation. -/
def last {op : HloOp τ sig Val} {P : Valuation τ sig Val → Prop} (e : Eqn op P) :
    Line (nD := nD) (Λ := Λ) (hlo rfl op fun _ => .ret (⟨⟩ : PUnit)) where
  ops := [op]
  trace := [e.at_]
  eq := (bind_pure _).symm
  both := ⟨e.ok, trivial⟩
  facts := P
  sound M h := e.sound M (h op (List.mem_cons_self ..))

/-- A line, then another. -/
def append (l : Line p) (k : Line q) : Line (p >>= fun _ => q) where
  ops := l.ops ++ k.ops
  trace := l.trace ++ k.trace
  eq := by rw [seq_append, ← l.eq, ← k.eq]
  both := l.both.append k.both
  facts M := l.facts M ∧ k.facts M
  sound M h := ⟨l.sound M fun o ho => h o (List.mem_append_left _ ho),
    k.sound M fun o ho => h o (List.mem_append_right _ ho)⟩

/-- The same line with weaker facts. -/
def weaken (l : Line p) (Q : Valuation τ sig Val → Prop) (h : ∀ M, l.facts M → Q M) : Line p where
  ops := l.ops
  trace := l.trace
  eq := l.eq
  both := l.both
  facts := Q
  sound M hM := h M (l.sound M hM)

theorem ret_facts (M : Valuation τ sig Val) :
    (ret (nD := nD) (τ := τ) (sig := sig) (Val := Val) (Λ := Λ)).facts M = True := rfl

theorem cons_facts {op : HloOp τ sig Val} {P : Valuation τ sig Val → Prop} (e : Eqn op P) (k : Line p)
    (M : Valuation τ sig Val) : (cons e k).facts M = (P M ∧ k.facts M) := rfl

theorem last_facts {op : HloOp τ sig Val} {P : Valuation τ sig Val → Prop} (e : Eqn op P) (M : Valuation τ sig Val) :
    (last (nD := nD) (Λ := Λ) e).facts M = P M := rfl

theorem append_facts (l : Line p) (k : Line q) (M : Valuation τ sig Val) :
    (append l k).facts M = (l.facts M ∧ k.facts M) := rfl

theorem weaken_facts (l : Line p) (Q : Valuation τ sig Val → Prop) (h) (M : Valuation τ sig Val) :
    (weaken l Q h).facts M = Q M := rfl

end Line

end Line01

end
-- ==== Proof.Threefry.lean ====
/-
  The threefry hash of two words by two key words, on 32-bit words.
-/
module

public import Idealize.ShloMosaic.PureOps

@[expose] public section

namespace Threefry

/-- A pair of 32-bit words. -/
abbrev Pair : Type := BitVec 32 × BitVec 32

/-- One round: the second word is added to the first, and rotated by `l` (`l + r = 32`) before it meets the sum. -/
def mix (l r : BitVec 32) (p : Pair) : Pair := (p.1 + p.2, (p.1 + p.2) ^^^ (p.2 <<< l ||| p.2 >>> r))

/-- A key injection: one key word to each, and the round's number. -/
def inject (a b n : BitVec 32) (p : Pair) : Pair := (p.1 + a, p.2 + b + n)

/-- The four rounds by 13, 15, 26, 6. -/
def roundsA (p : Pair) : Pair := mix 6#32 26#32 (mix 26#32 6#32 (mix 15#32 17#32 (mix 13#32 19#32 p)))

/-- The four rounds by 17, 29, 16, 24. -/
def roundsB (p : Pair) : Pair := mix 24#32 8#32 (mix 16#32 16#32 (mix 29#32 3#32 (mix 17#32 15#32 p)))

/-- The third key word. -/
def third (k0 k1 : BitVec 32) : BitVec 32 := k0 ^^^ k1 ^^^ 466688986#32

/-- The twenty rounds under the key words `a`, `b`, `c`, of words the first two of which are already injected. -/
def rounds (a b c : BitVec 32) (p : Pair) : Pair :=
  inject c a 5#32 (roundsA (inject b c 4#32 (roundsB (inject a b 3#32 (roundsA (inject c a 2#32 (roundsB
    (inject b c 1#32 (roundsA p)))))))))

/-- The hash. -/
def hash (k0 k1 x0 x1 : BitVec 32) : Pair := rounds k0 k1 (third k0 k1) (x0 + k0, x1 + k1)

/-- The random word of the counter `n` under a key: the two words of the hash, one over the other. -/
def bits (k0 k1 : BitVec 32) (n : Nat) : BitVec 32 :=
  (hash k0 k1 0#32 (BitVec.ofNat 32 n)).1 ^^^ (hash k0 k1 0#32 (BitVec.ofNat 32 n)).2

theorem mix_mk (l r a b : BitVec 32) : mix l r (a, b) = (a + b, (a + b) ^^^ (b <<< l ||| b >>> r)) := rfl

theorem inject_mk (a b n x y : BitVec 32) : inject a b n (x, y) = (x + a, y + b + n) := rfl

end Threefry
-- ==== Proof.RefHash.lean ====
/-
  The reference program's two hash functions as straight lines of operations, and what they compute.
-/
module

public import proofs.«01_k».proof.Proof.Line
public import proofs.«01_k».proof.Proof.Threefry
public import proofs.«01_k».proof.Proof.Gen.ReferenceIdeal

@[expose] public section

noncomputable section

namespace Cert.ReferenceIdeal

open Cert.ReferenceIdeal Cert.ReferenceIdeal.Gen Idealize.ShloMosaic Idealize.ShloMosaic.TcCoe Idealize.SL.Sem Line01

variable {F : FTy → Type} [FloatOps F]

/-! ## Equations of whole tensors, element by element

An equation that computes is turned from its expression to the buffer it defines, so that rewriting by a function's
equations folds a closed expression into its buffers from the inside out; a constant or a broadcast is turned the
other way. -/

section Elementwise

variable {w : Nat} {s : Shape}

/-- The one index of a tensor without axes. -/
def at0 : S_.Idx := fun a => a.elim0

theorem at0_eq (i : S_.Idx) : i = at0 := funext fun a => a.elim0

theorem eq_addi {y a b : IVec s w} : y = addi a b ↔ ∀ i n, b i = n → a i + n = y i :=
  ⟨fun h i n e => by rw [h, ← e]; rfl, fun h => funext fun i => (h i _ rfl).symm⟩

theorem eq_xori {y a b : IVec s w} : y = xori a b ↔ ∀ i n, b i = n → a i ^^^ n = y i :=
  ⟨fun h i n e => by rw [h, ← e]; rfl, fun h => funext fun i => (h i _ rfl).symm⟩

theorem eq_ori {y a b : IVec s w} : y = ori a b ↔ ∀ i n, b i = n → a i ||| n = y i :=
  ⟨fun h i n e => by rw [h, ← e]; rfl, fun h => funext fun i => (h i _ rfl).symm⟩

theorem eq_shli {y a b : IVec s w} : y = Host.shli a b ↔ ∀ i n, b i = n → IntOp.shli .host (a i) n = y i :=
  ⟨fun h i n e => by rw [h, ← e]; rfl, fun h => funext fun i => (h i _ rfl).symm⟩

theorem eq_shrui {y a b : IVec s w} : y = Host.shrui a b ↔ ∀ i n, b i = n → IntOp.shrui .host (a i) n = y i :=
  ⟨fun h i n e => by rw [h, ← e]; rfl, fun h => funext fun i => (h i _ rfl).symm⟩

/-- A round of the hash in the host's shifts. -/
theorem mix_host (l r a b : BitVec 32) (hl : l.toNat < 32) (hr : r.toNat < 32) : Threefry.mix l r (a, b)
    = (a + b, (a + b) ^^^ (IntOp.shli .host b l ||| IntOp.shrui .host b r)) := by
  rw [Threefry.mix_mk, IntOp.shli, IntOp.shrui, if_pos hl, if_pos hr]

theorem eq_constantI {y : IVec s w} {c : BitVec w} : y = constantI s w c ↔ ∀ i, y i = c :=
  ⟨fun h i => by rw [h]; rfl, fun h => funext h⟩

theorem broadcast_scalar {α : Type} {t : Shape} (dims : Fin S_.rank → Fin t.rank) (h : S_.BroadcastsInDim t dims)
    (x : S_.Idx → α) (j : t.Idx) : broadcastInDim t dims h x j = x at0 := congrArg x (at0_eq _)

theorem eq_broadcast {α : Type} {t : Shape} {dims : Fin S_.rank → Fin t.rank} {h : S_.BroadcastsInDim t dims}
    {y : t.Idx → α} {x : S_.Idx → α} : y = broadcastInDim t dims h x ↔ ∀ j, y j = x at0 :=
  ⟨fun e j => by rw [e, broadcast_scalar], fun e => funext fun j => (e j).trans (broadcast_scalar dims h x j).symm⟩

end Elementwise

section Hash2

variable (k0 k1 : StableHlo.TRef sig ⟨S_, .i32⟩) (x0 x1 : StableHlo.TRef sig ⟨S2, .i32⟩) (φ : fn_threefry2x32.Bufs)

/-- The hash of two counters, as the program writes it. -/
def hash2Ops : Line (fn_threefry2x32.body (F := F) k0 k1 x0 x1 φ) := by
  delta fn_threefry2x32.body fn_threefry2x32.body_part0 fn_threefry2x32.body_part1 fn_threefry2x32.body_part2
    fn_threefry2x32.body_part3
  refine Line.append ?_ (Line.append ?_ (Line.append ?_ ?_))
  all_goals
    repeat first
      | with_reducible refine Line.cons (Eqn.tbinary _ _ _ _) ?_
      | with_reducible refine Line.cons (Eqn.tnullary _ _) ?_
      | with_reducible refine Line.cons (Eqn.tunary _ _ _) ?_
      | with_reducible refine Line.cons (Eqn.treshape _ _ _ _) ?_
      | with_reducible exact Line.last (Eqn.tbinary _ _ _ _)
      | with_reducible exact Line.last (Eqn.tnullary _ _)
      | with_reducible exact Line.last (Eqn.tunary _ _ _)
      | with_reducible exact Line.ret

theorem hash2Ops_spec (M : Valuation τ sig (Elt F)) (h : (hash2Ops k0 k1 x0 x1 φ).facts M) (i : S2.Idx) :
    Threefry.hash (get M k0 at0) (get M k1 at0) (get M x0 i) (get M x1 i) = (get M φ.v171 i, get M φ.v175 i) := by
  simp only [hash2Ops, id, Line.append_facts, Line.cons_facts, Line.last_facts, Line.ret_facts] at h
  simp only [eq_addi, eq_xori, eq_ori, eq_shli, eq_shrui, eq_constantI, eq_broadcast] at h
  simp +decide only [Threefry.hash, Threefry.rounds, Threefry.third, Threefry.roundsA, Threefry.roundsB, mix_host,
    Threefry.inject_mk, h]

/-- The hash of two counters, with the one fact left that its results are the hash's. -/
def hash2 : Line (fn_threefry2x32.body (F := F) k0 k1 x0 x1 φ) :=
  (hash2Ops k0 k1 x0 x1 φ).weaken
    (fun M => (∀ i, get M φ.v171 i
        = (Threefry.hash (get M k0 at0) (get M k1 at0) (get M x0 i) (get M x1 i)).1)
      ∧ ∀ i, get M φ.v175 i = (Threefry.hash (get M k0 at0) (get M k1 at0) (get M x0 i) (get M x1 i)).2)
    fun M h => ⟨fun i => (congrArg Prod.fst (hash2Ops_spec k0 k1 x0 x1 φ M h i)).symm,
      fun i => (congrArg Prod.snd (hash2Ops_spec k0 k1 x0 x1 φ M h i)).symm⟩

end Hash2

section Hash16

variable (k0 k1 : StableHlo.TRef sig ⟨S_, .i32⟩) (x0 x1 : StableHlo.TRef sig ⟨S16384x16, .i32⟩) (φ : fn_threefry2x32_0.Bufs)

/-- The hash of the array of counters, as the program writes it. -/
def hash16Ops : Line (fn_threefry2x32_0.body (F := F) k0 k1 x0 x1 φ) := by
  delta fn_threefry2x32_0.body fn_threefry2x32_0.body_part0 fn_threefry2x32_0.body_part1 fn_threefry2x32_0.body_part2
    fn_threefry2x32_0.body_part3
  refine Line.append ?_ (Line.append ?_ (Line.append ?_ ?_))
  all_goals
    repeat first
      | with_reducible refine Line.cons (Eqn.tbinary _ _ _ _) ?_
      | with_reducible refine Line.cons (Eqn.tnullary _ _) ?_
      | with_reducible refine Line.cons (Eqn.tunary _ _ _) ?_
      | with_reducible refine Line.cons (Eqn.treshape _ _ _ _) ?_
      | with_reducible exact Line.last (Eqn.tbinary _ _ _ _)
      | with_reducible exact Line.last (Eqn.tnullary _ _)
      | with_reducible exact Line.last (Eqn.tunary _ _ _)
      | with_reducible exact Line.ret

theorem hash16Ops_spec (M : Valuation τ sig (Elt F)) (h : (hash16Ops k0 k1 x0 x1 φ).facts M) (i : S16384x16.Idx) :
    Threefry.hash (get M k0 at0) (get M k1 at0) (get M x0 i) (get M x1 i) = (get M φ.v171 i, get M φ.v175 i) := by
  simp only [hash16Ops, id, Line.append_facts, Line.cons_facts, Line.last_facts, Line.ret_facts] at h
  simp only [eq_addi, eq_xori, eq_ori, eq_shli, eq_shrui, eq_constantI, eq_broadcast] at h
  simp +decide only [Threefry.hash, Threefry.rounds, Threefry.third, Threefry.roundsA, Threefry.roundsB, mix_host,
    Threefry.inject_mk, h]

/-- The hash of the array of counters, with the one fact left that its results are the hash's. -/
def hash16 : Line (fn_threefry2x32_0.body (F := F) k0 k1 x0 x1 φ) :=
  (hash16Ops k0 k1 x0 x1 φ).weaken
    (fun M => (∀ i, get M φ.v171 i
        = (Threefry.hash (get M k0 at0) (get M k1 at0) (get M x0 i) (get M x1 i)).1)
      ∧ ∀ i, get M φ.v175 i = (Threefry.hash (get M k0 at0) (get M k1 at0) (get M x0 i) (get M x1 i)).2)
    fun M h => ⟨fun i => (congrArg Prod.fst (hash16Ops_spec k0 k1 x0 x1 φ M h i)).symm,
      fun i => (congrArg Prod.snd (hash16Ops_spec k0 k1 x0 x1 φ M h i)).symm⟩

end Hash16

end Cert.ReferenceIdeal

end
-- ==== Proof.RefValue.lean ====
/-
  What the reference program's buffers hold, element by element.
-/
module

public import proofs.«01_k».proof.Proof.RefHash
public import Idealize.ShloMosaic.Lib.Pointwise
public import Idealize.ShloMosaic.Lib.IdealHost

@[expose] public section

noncomputable section

namespace Cert.ReferenceIdeal

open Cert.ReferenceIdeal Cert.ReferenceIdeal.Gen Idealize.ShloMosaic Idealize.ShloMosaic.TcCoe Idealize.SL.Sem Line01
open Idealize.ShloMosaic.Pointwise

/-- A row-major position is its own low word, and its high word is zero. -/
theorem position (a b k : Nat) (hk : k ≤ 16) (ha : a < 16384) (hb : b < 16) :
    ((BitVec.ofNat 64 k * BitVec.ofNat 64 a + 1#64 * BitVec.ofNat 64 b) >>> (32#64)).setWidth 32 = 0#32
      ∧ (BitVec.ofNat 64 k * BitVec.ofNat 64 a + 1#64 * BitVec.ofNat 64 b).setWidth 32
        = BitVec.ofNat 32 (k * a + b) := by
  have h1 : k * a ≤ 16 * 16384 := Nat.mul_le_mul hk ha.le
  have h2 : (BitVec.ofNat 64 k * BitVec.ofNat 64 a + 1#64 * BitVec.ofNat 64 b) = BitVec.ofNat 64 (k * a + b) := by
    rw [BitVec.ofNat_add, BitVec.ofNat_mul, BitVec.one_mul]
  rw [h2]
  constructor
  · apply BitVec.eq_of_toNat_eq
    simp only [BitVec.toNat_setWidth, BitVec.ushiftRight_eq', BitVec.toNat_ushiftRight, BitVec.toNat_ofNat,
      Nat.shiftRight_eq_div_pow, Nat.zero_mod]
    rw [show 32 % 2 ^ 64 = 32 from rfl]
    omega
  · apply BitVec.eq_of_toNat_eq
    simp only [BitVec.toNat_setWidth, BitVec.toNat_ofNat]
    omega

/-- The two keys split from one. -/
def splitOps (a : StableHlo.TRef sig ⟨S2, .i32⟩) (φ : fn_threefry_split.Bufs) :
    Line (fn_threefry_split.body (F := Ideal) a φ) := by
  delta fn_threefry_split.body
  repeat first
    | with_reducible refine Line.append (hash2 _ _ _ _ _) ?_
    | with_reducible refine Line.cons (Eqn.tbinary _ _ _ _) ?_
    | with_reducible refine Line.cons (Eqn.tnullary _ _) ?_
    | with_reducible refine Line.cons (Eqn.tunary _ _ _) ?_
    | with_reducible refine Line.cons (Eqn.treshape _ _ _ _) ?_
    | with_reducible exact Line.last (Eqn.tbinary _ _ _ _)
    | with_reducible exact Line.last (Eqn.tnullary _ _)
    | with_reducible exact Line.last (Eqn.tunary _ _ _)
    | with_reducible exact Line.ret

theorem splitOps_spec (a : StableHlo.TRef sig ⟨S2, .i32⟩) (φ : fn_threefry_split.Bufs) (M : Valuation τ sig (Elt Ideal))
    (h : (splitOps a φ).facts M) (r : Fin 2) :
    get M φ.v14 (ix2 r 0) = (Threefry.hash (get M a (ix1 0)) (get M a (ix1 1)) 0#32 (BitVec.ofNat 32 r)).1
      ∧ get M φ.v14 (ix2 r 1) = (Threefry.hash (get M a (ix1 0)) (get M a (ix1 1)) 0#32 (BitVec.ofNat 32 r)).2 := by
  simp only [splitOps, id, Line.append_facts, Line.cons_facts, Line.ret_facts, hash2, Line.weaken_facts] at h
  have hp : ∀ r : Fin 2, BitVec.setWidth 32 (IntOp.shrui ArithUnit.host (IntOp.muli 1#64 (BitVec.ofNat 64 r)) 32#64) = 0#32
      ∧ BitVec.setWidth 32 (IntOp.muli 1#64 (BitVec.ofNat 64 r)) = BitVec.ofNat 32 r := by decide
  constructor
  · pointwise [h, hp r]
  · pointwise [h, hp r]

/-- The two keys split from one, with what they are. -/
def split (a : StableHlo.TRef sig ⟨S2, .i32⟩) (φ : fn_threefry_split.Bufs) :
    Line (fn_threefry_split.body (F := Ideal) a φ) :=
  (splitOps a φ).weaken _ fun M h => splitOps_spec a φ M h

/-- The uniform array of a key. -/
def uniformOps (a : StableHlo.TRef sig ⟨S2, .i32⟩) (lo hi : StableHlo.TRef sig ⟨S_, .f32⟩) (φ : fn_uniform.Bufs) :
    Line (fn_uniform.body (F := Ideal) a lo hi φ) := by
  delta fn_uniform.body
  repeat first
    | with_reducible refine Line.append (hash16 _ _ _ _ _) ?_
    | with_reducible refine Line.cons (Eqn.tbinary _ _ _ _) ?_
    | with_reducible refine Line.cons (Eqn.tnullary _ _) ?_
    | with_reducible refine Line.cons (Eqn.tunary _ _ _) ?_
    | with_reducible refine Line.cons (Eqn.treshape _ _ _ _) ?_
    | with_reducible exact Line.last (Eqn.tbinary _ _ _ _)
    | with_reducible exact Line.last (Eqn.tnullary _ _)
    | with_reducible exact Line.last (Eqn.tunary _ _ _)
    | with_reducible exact Line.ret

/-- The uniform variate of a random word: its upper bits as the mantissa of a number in [1, 2), moved to `[lo, hi)`. -/
def variate (lo hi : EReal) (w : BitVec 32) : EReal :=
  max lo ((Ideal.ofBits .f32 (w >>> 9#32 ||| 1065353216#32) - 1) * (hi - lo) + lo)

theorem uniformOps_spec (a : StableHlo.TRef sig ⟨S2, .i32⟩) (lo hi : StableHlo.TRef sig ⟨S_, .f32⟩) (φ : fn_uniform.Bufs)
    (M : Valuation τ sig (Elt Ideal)) (h : (uniformOps a lo hi φ).facts M) (r : Fin 16384) (c : Fin 16) :
    get M φ.v34 (ix2 r c) = variate (get M lo ix0) (get M hi ix0)
      (Threefry.bits (get M a (ix1 0)) (get M a (ix1 1)) (16 * r + c)) := by
  simp only [uniformOps, id, Line.append_facts, Line.cons_facts, Line.ret_facts, hash16, Line.weaken_facts] at h
  obtain ⟨hp, hq⟩ := position r c 16 le_rfl r.isLt c.isLt
  pointwise [h]
  simp only [IntOp.shrui, IntOp.addi, IntOp.muli, IntOp.ori, IntOp.xori]
  rw [if_pos (by decide), if_pos (by decide), hp, hq]
  rfl

/-- The uniform array of a key, with what it holds. -/
def uniform (a : StableHlo.TRef sig ⟨S2, .i32⟩) (lo hi : StableHlo.TRef sig ⟨S_, .f32⟩) (φ : fn_uniform.Bufs) :
    Line (fn_uniform.body (F := Ideal) a lo hi φ) :=
  (uniformOps a lo hi φ).weaken _ fun M h => uniformOps_spec a lo hi φ M h

/-- The polynomial of six coefficients. -/
def polyvalOps (c : StableHlo.TRef sig ⟨S6, .f32⟩) (t : StableHlo.TRef sig ⟨S16384x16, .f32⟩) (φ : fn_polyval.Bufs) :
    Line (fn_polyval.body (F := Ideal) c t φ) := by
  delta fn_polyval.body
  repeat first
    | with_reducible refine Line.cons (Eqn.tbinary _ _ _ _) ?_
    | with_reducible refine Line.cons (Eqn.tnullary _ _) ?_
    | with_reducible refine Line.cons (Eqn.tunary _ _ _) ?_
    | with_reducible refine Line.cons (Eqn.treshape _ _ _ _) ?_
    | with_reducible exact Line.last (Eqn.tbinary _ _ _ _)
    | with_reducible exact Line.last (Eqn.tnullary _ _)
    | with_reducible exact Line.last (Eqn.tunary _ _ _)
    | with_reducible exact Line.ret

/-- Horner's rule for six coefficients, highest power first. -/
def horner (c : Fin 6 → EReal) (t : EReal) : EReal :=
  ((((c 0 * t + c 1) * t + c 2) * t + c 3) * t + c 4) * t + c 5

theorem polyvalOps_spec (c : StableHlo.TRef sig ⟨S6, .f32⟩) (t : StableHlo.TRef sig ⟨S16384x16, .f32⟩) (φ : fn_polyval.Bufs)
    (M : Valuation τ sig (Elt Ideal)) (h : (polyvalOps c t φ).facts M) (r : Fin 16384) (j : Fin 16) :
    get M φ.v27 (ix2 r j) = horner (fun k => get M c (ix1 k)) (get M t (ix2 r j)) := by
  simp only [polyvalOps, id, Line.append_facts, Line.cons_facts, Line.ret_facts] at h
  pointwise [h]
  rfl

/-- The polynomial of six coefficients, with what it holds. -/
def polyval (c : StableHlo.TRef sig ⟨S6, .f32⟩) (t : StableHlo.TRef sig ⟨S16384x16, .f32⟩) (φ : fn_polyval.Bufs) :
    Line (fn_polyval.body (F := Ideal) c t φ) :=
  (polyvalOps c t φ).weaken _ fun M h => polyvalOps_spec c t φ M h

/-- The reference program. -/
def whole (d : Dev nD) : Line (main (F := Ideal) d) := by
  delta main main_part0 main_part1
  refine Line.append ?_ ?_
  all_goals
    repeat first
      | with_reducible refine Line.append (split _ _) ?_
      | with_reducible refine Line.append (uniform _ _ _ _) ?_
      | with_reducible refine Line.append (polyval _ _ _) ?_
      | with_reducible refine Line.cons (Eqn.binary _ _ _ _) ?_
      | with_reducible refine Line.cons (Eqn.nullary _ _) ?_
      | with_reducible refine Line.cons (Eqn.unary _ _ _) ?_
      | with_reducible refine Line.cons (Eqn.reshape _ _ _ _) ?_
      | with_reducible exact Line.last (Eqn.unary _ _ _)
      | with_reducible exact Line.ret

set_option maxRecDepth 100000 in
theorem whole_ordered (d : Dev nD) : ordered 6 (whole d).trace = true := by
  with_unfolding_all rfl

theorem get_of {T : BufTy} (M : Valuation τ sig (Elt Ideal)) (r : Ref sig .tc) (h : r.ty = T) (h1) (h2) :
    get M (⟨r, h, h1, h2⟩ : StableHlo.TRef sig T) = cast (congrArg (fun U : BufTy => U.Contents (Elt Ideal)) h) (M (Proc.devRef .tc r)) := rfl

/-- The words of the polynomial's coefficients, highest power first. -/
def coefficient : Fin 6 → BitVec 32 :=
  ![0x3B946D11#32, 0x3B139D26#32, 0xBD7B7A52#32, 0x3DDD508A#32, 0x3F6F3954#32, 0x3FF8A61D#32]

/-- The scaled normal deviate of a uniform variate, as the reference has it. -/
def deviate (u : EReal) : EReal :=
  horner (fun k => Ideal.ofBits .f32 (coefficient k))
      (Ideal.div (-Ideal.log1p (-(u * u))) (Ideal.sqrt (-Ideal.log1p (-(u * u)) + Ideal.ofBits .f32 0x0554AD2E#32))
        - Ideal.ofBits .f32 0x4005DD98#32)
    * u * Ideal.ofBits .f32 0x3C67B46A#32

theorem lit0_eq (k : Fin 6) : lit0 (S6.rowMajor (ix1 k)) = coefficient k := by revert k; decide

theorem lit1_eq (k : Fin 6) : lit1 (S6.rowMajor (ix1 k)) = coefficient k := by revert k; decide

/-- The first key of the two that the seed 1234 splits into … -/
theorem key_user : Threefry.hash (IntOp.shrui ArithUnit.host 1234#32 32#32) (IntOp.andi 1234#32 4294967295#32) 0#32 0#32
    = (1264997412#32, 2518116175#32) := by decide +kernel

/-- … and the second. -/
theorem key_item : Threefry.hash (IntOp.shrui ArithUnit.host 1234#32 32#32) (IntOp.andi 1234#32 4294967295#32) 0#32 1#32
    = (2877103387#32, 1697627890#32) := by decide +kernel

/-- What the reference program leaves at an index of its result. -/
theorem whole_spec (d : Dev nD) (M : Valuation τ sig (Elt Ideal)) (h : (whole d).facts M) (r c : Fin 128) :
    (M (Proc.devRef .tc main_v47) : S128x128.Idx → EReal) (ix2 r c)
      = (∑ x : Fin 16,
          deviate (variate (Ideal.ofBits .f32 0xBF800000#32) 1
              (Threefry.bits 1264997412#32 2518116175#32 (16 * (r * 128 + c) + x)))
            * deviate (variate (Ideal.ofBits .f32 0xBF800000#32) 1
              (Threefry.bits 2877103387#32 1697627890#32 (16 * (r * 128 + c) + x)))
            * (M (Proc.devRef .tc main_arg4) : S16x1.Idx → EReal) (ix2 x 0))
        + (M (Proc.devRef .tc main_arg5) : S1.Idx → EReal) (ix1 0) := by
  simp only [whole, id, Line.append_facts, Line.cons_facts, Line.ret_facts, Line.last_facts, split, uniform, polyval,
    Line.weaken_facts,
    show get M main_call0.v14 = M (Proc.devRef .tc main_v7) from rfl,
    show get M main_call1.v34 = M (Proc.devRef .tc main_v12) from rfl,
    show get M main_call2.v27 = M (Proc.devRef .tc main_v23) from rfl,
    show get M main_call3.v34 = M (Proc.devRef .tc main_v27) from rfl,
    show get M main_call4.v27 = M (Proc.devRef .tc main_v38) from rfl, get_of, cast_eq] at h
  pointwise [h]
  clear h
  simp only [lit0_eq, lit1_eq, key_user, key_item]
  rfl

theorem scopedRefs_eq : (Finset.univ.filter fun b : Ref sig .tc => b.isScoped) = ∅ := by decide

theorem scopedSems_eq : (Finset.univ.filter fun sm : SemLoc sig => sm.isScoped .tc) = ∅ := by decide

/-- The reference program, run: the memory at the end satisfies the program's equations, and a buffer numbered below
    the first result — an argument — holds what it held. -/
theorem run (m : (ℓ : Loc nD τ sig) → Buf (Elt Ideal) ℓ) (ρ : Dev nD → PrngReg) :
    θ_run defs (onTc (τ := τ) (main (F := Ideal))) ⟨m, fun _ => 0, ρ⟩ fun r => ∀ d : Dev nD,
      ∃ M : Valuation τ sig (Elt Ideal), (whole d).facts M
        ∧ (∀ b : Ref sig .tc, r.2.mem ((d.tc : Thread nD τ).loc b) = M (Proc.devRef .tc b))
        ∧ ∀ b : Ref sig .tc, rank b < 6 → r.2.mem ((d.tc : Thread nD τ).loc b) = m ((d.tc : Thread nD τ).loc b) :=
  (θ_run defs _ _).mono
    (fun _ h d => ⟨_, (whole d).sound _ (after_fixed (whole d).both (whole_ordered d) (StableHlo.launchContents m d)), h d,
      fun b hb => (h d b).trans (after_below (whole d).both (whole_ordered d) (StableHlo.launchContents m d) b hb)⟩)
    (StableHlo.run_seq scopedRefs_eq scopedSems_eq defs main (fun d => (whole d).ops) (fun d => (whole d).eq)
      (fun d => (whole d).both.bufs) m ρ fun d => (whole d).both.fresh)

end Cert.ReferenceIdeal

end
-- ==== Proof.KerHash.lean ====
/-
  The kernel's random words and variates: what its integer payloads compute at an index.
-/
module

public import proofs.«01_k».proof.Proof.Threefry
public import proofs.«01_k».proof.Proof.Gen.KernelIdeal.Skeleton

@[expose] public section

noncomputable section

namespace Cert.KernelIdeal

open Cert.KernelIdeal Cert.KernelIdeal.Gen Idealize.ShloMosaic Idealize.ShloMosaic.TcCoe Idealize.SL.Sem

variable {F : FTy → Type} [FloatOps F]

/-- The words over each other of a hash of words already injected, brought into the interval [2, 4) as a float. -/
def spread (p : Threefry.Pair) : BitVec 32 := (p.1 ^^^ p.2) >>> 9#32 ||| 0x40000000#32

/-- The user's floats, of the counters with the second key word added. -/
def userFloat (y : IVec S8x16x128 32) (k : Fin k0_t1_loop.trips) : FVec F S8x16x128 .f32 :=
  let a := k0_pay14 y 0#32 1#32 k
  let b := k0_pay15 y 0#32 1#32 k
  let p := k0_pay26 a b
  let q := k0_pay27 a b
  let r := k0_pay28 a b
  k0_pay41 (k0_pay38 p q r 6#32) (k0_pay39 p q r 6#32) k0_pay40

theorem userFloat_apply (y : IVec S8x16x128 32) (k : Fin k0_t1_loop.trips) (j : S8x16x128.Idx) :
    userFloat (F := F) y k j = FloatOps.ofBits .f32 (spread
      (Threefry.rounds 1264997412#32 2518116175#32 3332384945#32 (1264997412#32, k0_pay5 y 0#32 1#32 k j))) := by
  rfl

/-- The items' floats, less three, of the counters with the second key word added. -/
def itemVariate (y : IVec S8x16x128 32) (k : Fin k0_t1_loop.trips) : FVec F S8x16x128 .f32 :=
  let w := Scalar.muli (Scf.iv 0#32 1#32 k) 16384#32
  let a := k0_pay45 y w
  let b := k0_pay46 y w
  let c := k0_pay47 y w
  let p := k0_pay58 a b c 17#32
  let q := k0_pay59 a b c 17#32
  let r := k0_pay68 p q 24#32
  let s := k0_pay69 p q 24#32
  k0_pay84 (k0_pay81 r s k0_pay70) (k0_pay82 r s k0_pay70) (k0_pay83 r s k0_pay70) 17#32

theorem itemVariate_apply (y : IVec S8x16x128 32) (k : Fin k0_t1_loop.trips) (j : S8x16x128.Idx) :
    itemVariate (F := F) y k j = FloatOps.subf (FloatOps.ofBits .f32 (spread
      (Threefry.rounds 2877103387#32 1697627890#32 3582179379#32
        (2877103387#32, k0_pay43 y (Scalar.muli (Scf.iv 0#32 1#32 k) 16384#32) j)))) (FloatOps.ofBits .f32 0x40400000#32) := by
  rfl

/-- The items' roots, less the centre of the polynomial. -/
def itemCentred (y : IVec S8x16x128 32) (k : Fin k0_t1_loop.trips) : FVec F S8x16x128 .f32 :=
  let w := Scalar.muli (Scf.iv 0#32 1#32 k) 16384#32
  let a := k0_pay45 y w
  let b := k0_pay46 y w
  let c := k0_pay47 y w
  let p := k0_pay58 a b c 17#32
  let q := k0_pay59 a b c 17#32
  let r := k0_pay68 p q 24#32
  let s := k0_pay69 p q 24#32
  k0_pay85 (k0_pay81 r s k0_pay70) (k0_pay82 r s k0_pay70) (k0_pay83 r s k0_pay70) 17#32

/-- What a trip stores, of the weights and the bias. -/
def stored [Named F] (i : grid0.Coords) (k : Fin k0_t1_loop.trips) (v3 : Vec F S1x16x1 .f32) (v7 : Vec F S1x1 .f32) :
    Vec F S8x128 .f32 :=
  k0_pay4 v3 v7 (k0_pay42 (userFloat (k0_pay2 i) k)) (itemVariate (k0_pay3 i) k) (itemCentred (k0_pay3 i) k) k0_pay86

end Cert.KernelIdeal

end
-- ==== Proof.KerRun.lean ====
/-
  The kernel's run: what its loop leaves in the result's buffer, and what its blocks hold of the arguments.
-/
module

public import proofs.«01_k».proof.Proof.KerHash
public import proofs.«01_k».proof.Proof.Gen.KernelIdeal.Value
public import Idealize.ShloMosaic.Lib.Pipeline.Value
public import Idealize.ShloMosaic.Lib.Tactic
public import Idealize.ShloMosaic.Lib.Claim
public import Idealize.ShloMosaic.Lib.Pointwise

@[expose] public section

noncomputable section

namespace Cert.KernelIdeal

open Cert.KernelIdeal Cert.KernelIdeal.Gen Idealize.ShloMosaic Idealize.ShloMosaic.TcCoe Idealize.SL.Sem
open Idealize.ShloMosaic.Pipeline (Dat)
open Idealize.ShloMosaic.Pointwise

variable {F : FTy → Type} [FloatOps F] [Named F]
variable (m : (ℓ : Loc nD τ sig) → Buf (Elt F) ℓ)

/-- A trip of the loop writes one piece, at its eight rows. -/
theorem trip_pieces (𝒱 : Variants) (c : Dev nD) (bd : Option 𝒱.V) (i : grid0.Coords) (a1 : Memref sig .tc .vmem S1x16x1 .f32)
    (h1 : a1.IsWhole) (a2 : Memref sig .tc .vmem S1x1 .f32) (h2 : a2.IsWhole) (a3 : Memref sig .tc .vmem S128x128 .f32)
    (h3 : a3.IsWhole) (v3 : Vec F S1x16x1 .f32) (v7 : Vec F S1x1 .f32) (k : Fin k0_t1_loop.trips) :
    tripL_k0_t1 𝒱 c bd i a1 h1 a2 h2 a3 h3 v3 v7 k
      = [⟨Rect.unit (k0_off1 k) S8x128.size (k0_off1_inb k), stored i k v3 v7⟩] := by
  unfold tripL_k0_t1 trip_k0_t1
  rfl

/-- A piece of the trips before the `n`-th is a trip's. -/
theorem mem_pieces (𝒱 : Variants) (c : Dev nD) (bd : Option 𝒱.V) (i : grid0.Coords) (a1 : Memref sig .tc .vmem S1x16x1 .f32)
    (h1 : a1.IsWhole) (a2 : Memref sig .tc .vmem S1x1 .f32) (h2 : a2.IsWhole) (a3 : Memref sig .tc .vmem S128x128 .f32)
    (h3 : a3.IsWhole) (v3 : Vec F S1x16x1 .f32) (v7 : Vec F S1x1 .f32) (p : View.Piece (Elt F) S128x128 .f32) :
    ∀ n, n ≤ k0_t1_loop.trips → (p ∈ pb_k0_t1 𝒱 c bd i a1 h1 a2 h2 a3 h3 v3 v7 n ↔
      ∃ k : Fin k0_t1_loop.trips, k.val < n ∧ p = ⟨Rect.unit (k0_off1 k) S8x128.size (k0_off1_inb k), stored i k v3 v7⟩)
  | 0, _ => by simp [pb_k0_t1]
  | n + 1, hn => by
    have := mem_pieces 𝒱 c bd i a1 h1 a2 h2 a3 h3 v3 v7 p n (Nat.le_of_succ_le hn)
    rw [show n + 1 = (⟨n, hn⟩ : Fin k0_t1_loop.trips).val + 1 from rfl, pb_k0_t1_succ, trip_pieces,
      List.singleton_append, List.mem_cons, this]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact Or.inr ⟨k, h, rfl⟩
      · obtain rfl : k = ⟨n, hn⟩ := Fin.ext h
        exact Or.inl rfl

theorem trips_eq : k0_t1_loop.trips = 16 := by decide +kernel

/-- What the body leaves in the result's buffer, row by row: the row's trip stored it. -/
def left (i : grid0.Coords) (v3 : Vec F S1x16x1 .f32) (v7 : Vec F S1x1 .f32) : Vec F S128x128 .f32 := fun y =>
  stored i ⟨(y 0).val / 8, by have h : (y 0).val < 128 := (y 0).isLt; rw [trips_eq]; omega⟩ v3 v7
    (ix2 ⟨(y 0).val % 8, Nat.mod_lt _ (by decide)⟩ ⟨(y 1).val, (y 1).isLt⟩)

theorem hz2 : (![0, 0] : Fin 2 → Nat) = fun _ => 0 := funext fun a => by fin_cases a <;> rfl

theorem hz3 : (![0, 0, 0] : Fin 3 → Nat) = fun _ => 0 := funext fun a => by fin_cases a <;> rfl

theorem out_eq (c : Dev nD) (i : grid0.Coords) (a1 : Memref sig .tc .vmem S1x16x1 .f32) (h1 : a1.IsWhole)
    (a2 : Memref sig .tc .vmem S1x1 .f32) (h2 : a2.IsWhole) (a3 : Memref sig .tc .vmem S128x128 .f32) (h3 : a3.IsWhole)
    (v3 : Vec F S1x16x1 .f32) (v7 : Vec F S1x1 .f32) : out0_A_2 c i a1 h1 a2 h2 a3 h3 v3 v7 = left i v3 v7 := by
  have hc := cover0_A_2 c i a1 h1 a2 h2 a3 h3 v3 v7
  unfold out0_A_2
  rw [View.read_writes_eq_canon _ _ _ hc]
  revert hc
  unfold kernelRun0_A
  dsimp only
  simp only [View.readAt_eq_ld, h1.read_unread, h2.read_unread]
  rw [show View.ld v3 (Rect.unit ![0, 0, 0] ![1, 16, 1] inb_S1x16x1_S1x16x1_0_0_0) = v3 from
      View.ld_unit_zero (S := S1x16x1) hz3 _ v3,
    show View.ld v7 (Rect.unit ![0, 0] ![1, 1] inb_S1x1_S1x1_0_0) = v7 from View.ld_unit_zero (S := S1x1) hz2 _ v7]
  intro hc
  funext y
  refine View.canon_apply_of_pieces (left i v3 v7) _ ?_ y (hc y)
  intro p hp x
  obtain ⟨k, hk, rfl⟩ := (mem_pieces _ _ _ _ _ _ _ _ _ _ _ _ p _ (Nat.le_refl _)).mp hp
  have hx0 : (x 0).val < 8 := (x 0).isLt
  have e0 : ((Rect.unit (s := S128x128) (k0_off1 k) S8x128.size (k0_off1_inb k)).emb x 0).val = 8 * k.val + (x 0).val := by
    have h := congrFun (k0_off1_eq k) 0
    simp at h
    show k0_off1 k 0 + 1 * (x 0).val = _
    omega
  have e1 : ((Rect.unit (s := S128x128) (k0_off1 k) S8x128.size (k0_off1_inb k)).emb x 1).val = (x 1).val := by
    have h := congrFun (k0_off1_eq k) 1
    simp at h
    show k0_off1 k 1 + 1 * (x 1).val = _
    omega
  show stored i k v3 v7 x = _
  unfold left
  congr 1
  · congr 1
    apply Fin.ext
    show k.val = _ / 8
    rw [e0]; omega
  · funext a
    match a with
    | ⟨0, _⟩ => apply Fin.ext; show (x 0).val = _ % 8; rw [e0]; omega
    | ⟨1, _⟩ => apply Fin.ext; exact e1.symm

/-- The kernel's result: what the body leaves, of the weights' and the bias's blocks. -/
def result (c : Dev nD) : Buf (Elt F) ((c : Thread nD τ).loc main_v0) :=
  left (grid0.coords t0_0) (iblk m c 0 t0_0) (iblk m c 1 t0_0)

/-- The one write-back writes it. -/
theorem flushed_eq (c : Dev nD) (t : Fin cfg0.N) (_hf : (cfg0.win 2).flush t = true) :
    (dats m 0 c).flushed 2 t = ((cfg0.win 2).blk t).view.read (Elt F) (result m c) := by
  have hN : cfg0.N = 1 := N_0
  obtain rfl : t = t0_0 := Fin.ext (by have := t.isLt; show t.val = 0; omega)
  rw [Value.flushed2_A, out_eq]
  have hz' : (fun a => win0_2.index t0_0 a * main_v0.ty.shape.size a) = fun _ => 0 := funext fun a => by fin_cases a <;> decide
  exact (Memref.read_access_unit_zero (Elt F) main_v0 hz' (fun a => by rw [congrFun hz' a]; simp) (result m c)).symm

/-- So the result array ends holding it. -/
theorem final (c : Dev nD) : (dats m 0 c).arrAt 2 cfg0.N = result m c :=
  (dats m 0 c).arrAt_eq_of_cover 2 (result m c) (flushed_eq m c) fun i =>
    ⟨t0_0, by decide +kernel, by
      show i ∈ ((View.whole main_v0).slice (win0_2.rect t0_0)).set
      rw [View.set_slice_whole, Rect.mem_set_unit]
      intro a
      have h0 : (i 0 : Nat) < 128 := (i 0).isLt
      have h1 : (i 1 : Nat) < 128 := (i 1).isLt
      match a with
      | ⟨0, _⟩ =>
        show win0_2.index t0_0 0 * win0_2.size 0 ≤ (i 0 : Nat)
          ∧ (i 0 : Nat) < win0_2.index t0_0 0 * win0_2.size 0 + win0_2.xsize (grid0.coords t0_0) 0
        rw [show win0_2.index t0_0 0 * win0_2.size 0 = 0 from by decide +kernel,
          show win0_2.xsize (grid0.coords t0_0) 0 = 128 from by decide +kernel]; omega
      | ⟨1, _⟩ =>
        show win0_2.index t0_0 1 * win0_2.size 1 ≤ (i 1 : Nat)
          ∧ (i 1 : Nat) < win0_2.index t0_0 1 * win0_2.size 1 + win0_2.xsize (grid0.coords t0_0) 1
        rw [show win0_2.index t0_0 1 * win0_2.size 1 = 0 from by decide +kernel,
          show win0_2.xsize (grid0.coords t0_0) 1 = 128 from by decide +kernel]; omega⟩

theorem entry_weights (c : Dev nD) : V m c main_call0_v0
    = shapeCast S1x16x1 (m ((c : Thread nD τ).loc main_arg4)) shapeCasts_S16x1_S1x16x1 := by
  entry_read
  rfl

theorem entry_bias (c : Dev nD) : V m c main_call0_v1
    = shapeCast S1x1 (m ((c : Thread nD τ).loc main_arg5)) shapeCasts_S1_S1x1 := by
  entry_read
  rfl

/-- The weights' block is the weights, laid along the middle axis; -/
theorem weights_block (c : Dev nD) (x : Fin 16) : (iblk m c 0 t0_0 : Vec F S1x16x1 .f32) (ix3 0 x 0)
    = (m ((c : Thread nD τ).loc main_arg4) : S16x1.Idx → F .f32) (ix2 x 0) := by
  have e : (((cfg0.win 0).blk t0_0).view.emb (ix3 0 x 0) : S1x16x1.Idx) = ix3 0 x 0 := by
    funext a
    apply Fin.ext
    match a with
    | ⟨0, _⟩ => rfl
    | ⟨1, _⟩ => show 0 + 1 * x.val = x.val; omega
    | ⟨2, _⟩ => rfl
  unfold iblk
  rw [View.read_apply]
  show (V m c main_call0_v0 : S1x16x1.Idx → F .f32) _ = _
  rw [entry_weights, e]
  pointwise

/-- and the bias's block is the bias. -/
theorem bias_block (c : Dev nD) : (iblk m c 1 t0_0 : Vec F S1x1 .f32) (ix2 0 0)
    = (m ((c : Thread nD τ).loc main_arg5) : S1.Idx → F .f32) (ix1 0) := by
  have e : (((cfg0.win 1).blk t0_0).view.emb (ix2 0 0) : S1x1.Idx) = ix2 0 0 := by
    funext a
    apply Fin.ext
    match a with
    | ⟨0, _⟩ => rfl
    | ⟨1, _⟩ => rfl
  unfold iblk
  rw [View.read_apply]
  show (V m c main_call0_v1 : S1x1.Idx → F .f32) _ = _
  rw [entry_bias, e]
  pointwise

end Cert.KernelIdeal

end
-- ==== Proof.KerValue.lean ====
/-
  What a trip of the kernel's loop stores, at an index, over the extended reals.
-/
module

public import proofs.«01_k».proof.Proof.KerRun

@[expose] public section

noncomputable section

namespace Cert.KernelIdeal

open Cert.KernelIdeal Cert.KernelIdeal.Gen Idealize.ShloMosaic Idealize.ShloMosaic.TcCoe Idealize.SL.Sem
open Idealize.ShloMosaic.Pointwise

/-- The root of a uniform variate's logarithm, less the centre of the polynomial. -/
def centred (u : EReal) : EReal :=
  (0 - Ideal.log (1 - u * u)) * Ideal.rsqrt (0 - Ideal.log (1 - u * u) + Ideal.ofBits .f32 0x0554AD2E#32)
    - Ideal.ofBits .f32 0x4005DD98#32

/-- The polynomial. -/
def polynomial (t : EReal) : EReal :=
  ((((Ideal.ofBits .f32 0x3B946D11#32 * t + Ideal.ofBits .f32 0x3B139D26#32) * t + Ideal.ofBits .f32 0xBD7B7A52#32) * t
    + Ideal.ofBits .f32 0x3DDD508A#32) * t + Ideal.ofBits .f32 0x3F6F3954#32) * t + Ideal.ofBits .f32 0x3FF8A61D#32

/-- The uniform variate of a hash's words. -/
def uniformly (p : Threefry.Pair) : EReal := Ideal.ofBits .f32 (spread p) - Ideal.ofBits .f32 0x40400000#32

/-- The normal deviate, unscaled, of a uniform variate. -/
def normally (u : EReal) : EReal := polynomial (centred u) * u

/-- The user's value of a float of [2, 4), at an index. -/
theorem pay42_apply (v : FVec Ideal S8x16x128 .f32) (r : Fin 8) (x : Fin 16) (c : Fin 128) :
    k0_pay42 (F := Ideal) v (ix3 r x c) = normally (v (ix3 r x c) - Ideal.ofBits .f32 0x40400000#32) := by
  unfold k0_pay42
  pointwise
  unfold normally polynomial centred
  with_reducible rfl

/-- The items' root of a variate, at an index. -/
theorem pay85_apply (a b d : IVec S8x16x128 32) (n : BitVec 32) (r : Fin 8) (x : Fin 16) (c : Fin 128) :
    k0_pay85 (F := Ideal) a b d n (ix3 r x c) = centred (k0_pay84 (F := Ideal) a b d n (ix3 r x c)) := by
  unfold k0_pay85
  obtain ⟨v, hv⟩ : ∃ v, v = k0_pay84 (F := Ideal) a b d n := ⟨_, rfl⟩
  rw [← hv]
  clear hv
  pointwise
  unfold centred
  with_reducible rfl

/-- What a trip stores, of its four vectors: the sum over the features of the users' values, the items' and the scaled
    weights, and the bias. -/
theorem pay4_apply (v3 : Vec Ideal S1x16x1 .f32) (v7 : Vec Ideal S1x1 .f32) (a b t : FVec Ideal S8x16x128 .f32)
    (r : Fin 8) (c : Fin 128) : (k0_pay4 v3 v7 a b t k0_pay86 : S8x128.Idx → EReal) (ix2 r c)
      = (∑ x : Fin 16, a (ix3 r x c) * (polynomial (t (ix3 r x c)) * b (ix3 r x c))
          * (v3 (ix3 0 x 0) * (Named.named κ "variance" 0x3951B716#32 : Ideal .f32))) + v7 (ix2 0 0) := by
  unfold k0_pay4 k0_pay86
  pointwise
  unfold polynomial
  with_reducible rfl

theorem ofBits_eq (w : BitVec 32) : (FloatOps.ofBits .f32 w : Ideal .f32) = Ideal.ofBits .f32 w := rfl

theorem subf_eq (x y : Ideal .f32) : FloatOps.subf x y = (x - y : EReal) := rfl

/-- The user's value is the deviate of the hash's variate. -/
theorem user_apply (y : IVec S8x16x128 32) (k : Fin k0_t1_loop.trips) (r : Fin 8) (x : Fin 16) (c : Fin 128) :
    k0_pay42 (userFloat (F := Ideal) y k) (ix3 r x c)
      = normally (uniformly (Threefry.rounds 1264997412#32 2518116175#32 3332384945#32
          (1264997412#32, k0_pay5 y 0#32 1#32 k (ix3 r x c)))) := by
  rw [pay42_apply, userFloat_apply, ofBits_eq]
  unfold uniformly
  with_reducible rfl

/-- The items' variate is the hash's. -/
theorem item_apply (y : IVec S8x16x128 32) (k : Fin k0_t1_loop.trips) (j : S8x16x128.Idx) :
    itemVariate (F := Ideal) y k j
      = uniformly (Threefry.rounds 2877103387#32 1697627890#32 3582179379#32
        (2877103387#32, k0_pay43 y (Scalar.muli (Scf.iv 0#32 1#32 k) 16384#32) j)) := by
  rw [itemVariate_apply, ofBits_eq, ofBits_eq, subf_eq]
  unfold uniformly
  with_reducible rfl

theorem centred_apply (y : IVec S8x16x128 32) (k : Fin k0_t1_loop.trips) (r : Fin 8) (x : Fin 16) (c : Fin 128) :
    itemCentred (F := Ideal) y k (ix3 r x c) = centred (itemVariate (F := Ideal) y k (ix3 r x c)) := by
  unfold itemCentred itemVariate
  exact pay85_apply _ _ _ _ _ _ _

/-- The number of a feature of a row of the trip's eight, in the order of the table. -/
def number (k : Fin k0_t1_loop.trips) (r : Fin 8) (x : Fin 16) (c : Fin 128) : ℕ := 16 * ((8 * k + r) * 128 + c) + x

theorem iv_eq : ∀ k : Fin k0_t1_loop.trips, Scf.iv 0#32 1#32 k = BitVec.ofNat 32 k.val := by decide +kernel

/-- The first vector of counters, at an index. -/
theorem pay1_apply (i : grid0.Coords) (r : Fin 8) (x : Fin 16) (c : Fin 128) :
    k0_pay1 i (ix3 r x c) = BitVec.ofNat 32 (16 * (r * 128 + c) + x) := by
  have hi : (i 0).val = 0 := by have : (i 0).val < 1 := (i 0).isLt; omega
  show 16#32 * (BitVec.ofNat 32 (i 0).val * 16384#32 + 128#32 * BitVec.ofNat 32 (0 * 8 + r.val)
    + BitVec.ofNat 32 (0 * 128 + c.val)) + BitVec.ofNat 32 (0 * 16 + x.val) = _
  rw [hi]
  apply BitVec.eq_of_toNat_eq
  simp only [BitVec.toNat_add, BitVec.toNat_mul, BitVec.toNat_ofNat]
  omega

theorem add_trip (k : Fin k0_t1_loop.trips) (r : Fin 8) (x : Fin 16) (c : Fin 128) (b : BitVec 32) :
    (BitVec.ofNat 32 (16 * (r * 128 + c) + x) + b) + Scalar.muli (Scf.iv 0#32 1#32 k) 16384#32
      = BitVec.ofNat 32 (number k r x c) + b := by
  rw [iv_eq]
  show _ + BitVec.ofNat 32 k.val * 16384#32 = _
  unfold number
  apply BitVec.eq_of_toNat_eq
  simp only [BitVec.toNat_add, BitVec.toNat_mul, BitVec.toNat_ofNat]
  omega

theorem user_counter (i : grid0.Coords) (k : Fin k0_t1_loop.trips) (r : Fin 8) (x : Fin 16) (c : Fin 128) :
    k0_pay5 (k0_pay2 i) 0#32 1#32 k (ix3 r x c) = BitVec.ofNat 32 (number k r x c) + 2518116175#32 := by
  rw [← add_trip, ← pay1_apply i]
  rfl

theorem item_counter (i : grid0.Coords) (k : Fin k0_t1_loop.trips) (r : Fin 8) (x : Fin 16) (c : Fin 128) :
    k0_pay43 (k0_pay3 i) (Scalar.muli (Scf.iv 0#32 1#32 k) 16384#32) (ix3 r x c)
      = BitVec.ofNat 32 (number k r x c) + 1697627890#32 := by
  rw [← add_trip, ← pay1_apply i]
  rfl

/-- A hash of the first counter word zero, from its rounds. -/
theorem rounds_eq (k0 k1 k2 : BitVec 32) (h : Threefry.third k0 k1 = k2) (n : ℕ) :
    Threefry.rounds k0 k1 k2 (k0, BitVec.ofNat 32 n + k1) = Threefry.hash k0 k1 0#32 (BitVec.ofNat 32 n) := by
  rw [Threefry.hash, h, BitVec.zero_add]

/-- The uniform variate the kernel makes of a random word. -/
def variate (w : BitVec 32) : EReal :=
  Ideal.ofBits .f32 (w >>> 9#32 ||| 0x40000000#32) - Ideal.ofBits .f32 0x40400000#32

/-- What a trip stores, at a row and a column. -/
theorem stored_apply (i : grid0.Coords) (k : Fin k0_t1_loop.trips) (v3 : Vec Ideal S1x16x1 .f32) (v7 : Vec Ideal S1x1 .f32)
    (r : Fin 8) (c : Fin 128) : (stored i k v3 v7 : S8x128.Idx → EReal) (ix2 r c)
      = (∑ x : Fin 16, normally (variate (Threefry.bits 1264997412#32 2518116175#32 (number k r x c)))
          * normally (variate (Threefry.bits 2877103387#32 1697627890#32 (number k r x c)))
          * (v3 (ix3 0 x 0) * (Named.named κ "variance" 0x3951B716#32 : Ideal .f32))) + v7 (ix2 0 0) := by
  unfold stored
  rw [pay4_apply]
  refine congrArg (fun s : EReal => s + v7 (ix2 0 0)) (Finset.sum_congr rfl fun x _ => ?_)
  rw [user_apply, centred_apply, item_apply, user_counter, item_counter, rounds_eq _ _ _ (by decide),
    rounds_eq _ _ _ (by decide)]
  unfold normally variate uniformly spread Threefry.bits
  with_reducible rfl

end Cert.KernelIdeal

end
-- ==== Proof.Equal.lean ====
/-
  What the kernel computes of a hash's word is what the reference computes of it, over the extended reals.
-/
module

public import proofs.«01_k».proof.Proof.RefValue
public import proofs.«01_k».proof.Proof.KerValue

@[expose] public section

noncomputable section

namespace Cert.Equal

open Idealize.ShloMosaic

/-- A fraction of 23 bits under the fields `e` of a positive normal float. -/
theorem word_toNat (w : BitVec 32) (e : Nat) (he : e < 256) :
    (w >>> 9#32 ||| BitVec.ofNat 32 (2 ^ 23 * e)).toNat = 2 ^ 23 * e + (w >>> 9#32).toNat := by
  have h : (w >>> 9#32).toNat < 2 ^ 23 := by
    have := w.isLt
    simp [BitVec.toNat_ushiftRight, Nat.shiftRight_eq_div_pow]
    omega
  rw [BitVec.toNat_or, BitVec.toNat_ofNat, Nat.mod_eq_of_lt (by omega), Nat.or_comm, ← Nat.two_pow_add_eq_or_of_lt h]

/-- The float of a fraction of 23 bits under an exponent `e`. -/
theorem float_of (w : BitVec 32) (e : Nat) (he : 0 < e) (he' : e < 255) :
    Ideal.ofBits .f32 (w >>> 9#32 ||| BitVec.ofNat 32 (2 ^ 23 * e))
      = (((2 ^ 23 + (w >>> 9#32).toNat : ℝ) * (2 : ℝ) ^ ((e : Int) - 150) : ℝ) : EReal) := by
  have h : (w >>> 9#32).toNat < 2 ^ 23 := by
    have := w.isLt
    simp [BitVec.toNat_ushiftRight, Nat.shiftRight_eq_div_pow]
    omega
  have hn := word_toNat w e (by omega)
  generalize (w >>> 9#32 ||| BitVec.ofNat 32 (2 ^ 23 * e)) = v at hn ⊢
  generalize (w >>> 9#32).toNat = f at hn h ⊢
  have h1 : (v.extractLsb' (8 + 23) 1 == 1#1) = false := by
    rw [beq_eq_false_iff_ne]
    intro q
    have := congrArg BitVec.toNat q
    simp [BitVec.extractLsb'_toNat, Nat.shiftRight_eq_div_pow, hn] at this
    omega
  have h2 : (v.extractLsb' 23 8).toNat = e := by
    simp [BitVec.extractLsb'_toNat, Nat.shiftRight_eq_div_pow, hn]
    omega
  have h3 : (v.extractLsb' 0 23).toNat = f := by
    simp [BitVec.extractLsb'_toNat, hn]
    omega
  show Ideal.ieee 8 23 v = _
  unfold Ideal.ieee
  simp only [h1, h2, h3]
  rw [if_neg (by omega), if_neg (by omega)]
  have e1 : ((e : Int) - (2 ^ (8 - 1) - 1) - (23 : ℕ)) = (e : Int) - 150 := by norm_num; ring
  rw [e1]
  refine congrArg (fun x : ℝ => (x : EReal)) ?_
  norm_num

/-- The pattern of minus one. -/
theorem ofBits_neg_one : Ideal.ofBits .f32 0xBF800000#32 = ((-1 : ℝ) : EReal) := by
  simp [Ideal.ofBits, Ideal.ieee, -EReal.coe_mul, -EReal.coe_neg]; norm_num

/-- The pattern of three. -/
theorem ofBits_three : Ideal.ofBits .f32 0x40400000#32 = ((3 : ℝ) : EReal) := by
  simp [Ideal.ofBits, Ideal.ieee, -EReal.coe_mul]; norm_num

/-- The small number under the roots is a positive real. -/
theorem ofBits_small : ∃ ε : ℝ, 0 < ε ∧ Ideal.ofBits .f32 0x0554AD2E#32 = (ε : EReal) := by
  refine ⟨_, ?_, by simp [Ideal.ofBits, Ideal.ieee, -EReal.coe_mul]; rfl⟩
  positivity

/-- The deviation's pattern, as a real. -/
theorem ofBits_deviation : Ideal.ofBits .f32 0x3C67B46A#32 = ((7592501 / 536870912 : ℝ) : EReal) := by
  simp [Ideal.ofBits, Ideal.ieee, -EReal.coe_mul]; norm_num

/-- The uniform variate, a real of [-1, 1). -/
def uniform (w : BitVec 32) : ℝ := -1 + (w >>> 9#32).toNat / 2 ^ 22

theorem uniform_lower (w : BitVec 32) : -1 ≤ uniform w := by
  unfold uniform
  have : (0 : ℝ) ≤ (w >>> 9#32).toNat / 2 ^ 22 := by positivity
  linarith

theorem uniform_upper (w : BitVec 32) : uniform w < 1 := by
  have h : (w >>> 9#32).toNat < 2 ^ 23 := by
    have := w.isLt
    simp [BitVec.toNat_ushiftRight, Nat.shiftRight_eq_div_pow]
    omega
  have h' : ((w >>> 9#32).toNat : ℝ) < 2 ^ 23 := by exact_mod_cast h
  unfold uniform
  rw [← sub_pos]
  have : (0 : ℝ) < (2 ^ 23 - (w >>> 9#32).toNat) / 2 ^ 22 := by
    apply div_pos _ (by norm_num)
    linarith
  calc (0 : ℝ) < _ := this
    _ = _ := by ring

/-- The kernel's variate is that real. -/
theorem kernel_variate (w : BitVec 32) : KernelIdeal.variate w = (uniform w : EReal) := by
  unfold KernelIdeal.variate
  have h := float_of w 128 (by omega) (by omega)
  rw [show BitVec.ofNat 32 (2 ^ 23 * 128) = 0x40000000#32 from rfl] at h
  rw [h, ofBits_three, ← EReal.coe_sub]
  congr 1
  unfold uniform
  norm_num
  ring

/-- The reference's variate is that real. -/
theorem reference_variate (w : BitVec 32) :
    ReferenceIdeal.variate (Ideal.ofBits .f32 0xBF800000#32) 1 w = (uniform w : EReal) := by
  unfold ReferenceIdeal.variate
  have h := float_of w 127 (by omega) (by omega)
  rw [show BitVec.ofNat 32 (2 ^ 23 * 127) = 1065353216#32 from rfl] at h
  rw [h, ofBits_neg_one, show (1 : EReal) = ((1 : ℝ) : EReal) from rfl, ← EReal.coe_sub, ← EReal.coe_sub, ← EReal.coe_mul,
    ← EReal.coe_add]
  have e : ((2 ^ 23 + (w >>> 9#32).toNat : ℝ) * (2 : ℝ) ^ (((127 : ℕ) : Int) - 150) - 1) * (1 - -1) + -1 = uniform w := by
    unfold uniform
    norm_num
    ring
  rw [e]
  exact max_eq_right (EReal.coe_le_coe_iff.2 (uniform_lower w))

/-- A quotient by a root is a product by the reciprocal root, at a logarithm's negation. -/
theorem div_sqrt (u : ℝ) (hl : -1 ≤ u) (hu : u < 1) (ε : ℝ) (hε : 0 < ε) :
    Ideal.div (-Ideal.log1p (-((u : EReal) * u))) (Ideal.sqrt (-Ideal.log1p (-((u : EReal) * u)) + (ε : EReal)))
      = (0 - Ideal.log (1 - (u : EReal) * u)) * Ideal.rsqrt (0 - Ideal.log (1 - (u : EReal) * u) + (ε : EReal)) := by
  have e1 : Ideal.log1p (-((u : EReal) * u)) = Ideal.log (((1 - u * u : ℝ)) : EReal) := by
    unfold Ideal.log1p
    congr 1
  have e2 : (1 - (u : EReal) * u) = (((1 - u * u : ℝ)) : EReal) := rfl
  rw [e1, e2, zero_sub]
  show Ideal.div (-(if 1 - u * u ≤ 0 then ⊥ else ((Real.log (1 - u * u) : ℝ) : EReal))) (Ideal.sqrt (-(if 1 - u * u ≤ 0 then ⊥ else ((Real.log (1 - u * u) : ℝ) : EReal)) + (ε : EReal)))
      = (-(if 1 - u * u ≤ 0 then ⊥ else ((Real.log (1 - u * u) : ℝ) : EReal))) * Ideal.rsqrt (-(if 1 - u * u ≤ 0 then ⊥ else ((Real.log (1 - u * u) : ℝ) : EReal)) + (ε : EReal))
  split_ifs with h
  · rw [EReal.neg_bot, EReal.top_add_coe]
    show Ideal.div ⊤ ⊤ = ⊤ * 0
    unfold Ideal.div
    rw [if_neg (by simp), EReal.inv_top]
  · have hw : 0 ≤ -Real.log (1 - u * u) := neg_nonneg.2 (Real.log_nonpos (by linarith) (by nlinarith))
    rw [← EReal.coe_neg]
    generalize -Real.log (1 - u * u) = z at hw ⊢
    rw [← EReal.coe_add]
    have hp : 0 < z + ε := by linarith
    have hs : 0 < Real.sqrt (z + ε) := Real.sqrt_pos.2 hp
    show Ideal.div (z : EReal) (if z + ε < 0 then ⊥ else ((Real.sqrt (z + ε) : ℝ) : EReal))
      = (z : EReal) * (if z + ε < 0 then ⊥ else if z + ε = 0 then ⊤ else (((Real.sqrt (z + ε))⁻¹ : ℝ) : EReal))
    rw [if_neg hp.le.not_gt, if_neg hp.le.not_gt, if_neg hp.ne']
    unfold Ideal.div
    rw [if_neg (by exact_mod_cast hs.ne'), EReal.coe_inv]

/-- The polynomial, either way it is written. -/
theorem horner_eq (t : EReal) :
    ReferenceIdeal.horner (fun k => Ideal.ofBits .f32 (ReferenceIdeal.coefficient k)) t = KernelIdeal.polynomial t := rfl

/-- A normal deviate of the reference is the kernel's, times the deviation. -/
theorem deviate_eq (w : BitVec 32) :
    ReferenceIdeal.deviate (ReferenceIdeal.variate (Ideal.ofBits .f32 0xBF800000#32) 1 w)
      = KernelIdeal.normally (KernelIdeal.variate w) * ((7592501 / 536870912 : ℝ) : EReal) := by
  obtain ⟨ε, hε, he⟩ := ofBits_small
  rw [reference_variate, kernel_variate]
  unfold ReferenceIdeal.deviate KernelIdeal.normally KernelIdeal.centred
  rw [horner_eq, he, div_sqrt _ (uniform_lower w) (uniform_upper w) ε hε, ofBits_deviation]

/-- The named variance is the deviation's square. -/
theorem variance_eq : (Named.named KernelIdeal.κ "variance" 0x3951B716#32 : Ideal .f32)
    = ((7592501 / 536870912 : ℝ) : EReal) * ((7592501 / 536870912 : ℝ) : EReal) := by
  show ((57646071435001 / 288230376151711744 : ℝ) : EReal) = _
  rw [← EReal.coe_mul]
  congr 1
  norm_num

/-- A term of the reference's sum is the kernel's. -/
theorem term_eq (w w' : BitVec 32) (W : EReal) :
    KernelIdeal.normally (KernelIdeal.variate w) * KernelIdeal.normally (KernelIdeal.variate w')
        * (W * (Named.named KernelIdeal.κ "variance" 0x3951B716#32 : Ideal .f32))
      = ReferenceIdeal.deviate (ReferenceIdeal.variate (Ideal.ofBits .f32 0xBF800000#32) 1 w)
        * ReferenceIdeal.deviate (ReferenceIdeal.variate (Ideal.ofBits .f32 0xBF800000#32) 1 w') * W := by
  rw [deviate_eq, deviate_eq, variance_eq]
  generalize KernelIdeal.normally (KernelIdeal.variate w) = a
  generalize KernelIdeal.normally (KernelIdeal.variate w') = b
  generalize ((7592501 / 536870912 : ℝ) : EReal) = s
  ac_rfl

end Cert.Equal

namespace Cert.KernelIdeal

open Cert.KernelIdeal Cert.KernelIdeal.Gen Idealize.ShloMosaic Idealize.ShloMosaic.TcCoe Idealize.SL.Sem
open Idealize.ShloMosaic.Pointwise

/-- The kernel's result at an index: the reference's sum. -/
theorem result_apply (m : (ℓ : Loc nD τ sig) → Buf (Elt Ideal) ℓ) (d : Dev nD) (r c : Fin 128) :
    (result m d : S128x128.Idx → EReal) (ix2 r c)
      = (∑ x : Fin 16,
          ReferenceIdeal.deviate (ReferenceIdeal.variate (Ideal.ofBits .f32 0xBF800000#32) 1
              (Threefry.bits 1264997412#32 2518116175#32 (16 * (r * 128 + c) + x)))
            * ReferenceIdeal.deviate (ReferenceIdeal.variate (Ideal.ofBits .f32 0xBF800000#32) 1
              (Threefry.bits 2877103387#32 1697627890#32 (16 * (r * 128 + c) + x)))
            * (m ((d : Thread nD τ).loc main_arg4) : S16x1.Idx → EReal) (ix2 x 0))
        + (m ((d : Thread nD τ).loc main_arg5) : S1.Idx → EReal) (ix1 0) := by
  have hk : r.val / 8 < k0_t1_loop.trips := by rw [trips_eq]; omega
  have h := stored_apply (grid0.coords t0_0) ⟨r.val / 8, hk⟩ (iblk m d 0 t0_0) (iblk m d 1 t0_0)
    ⟨r.val % 8, Nat.mod_lt _ (by decide)⟩ c
  refine Eq.trans ?_ (h.trans ?_)
  · rfl
  · rw [bias_block]
    refine congrArg (fun s : EReal => s + _) (Finset.sum_congr rfl fun x _ => ?_)
    rw [weights_block, Equal.term_eq]
    have e : number ⟨r.val / 8, hk⟩ ⟨r.val % 8, Nat.mod_lt _ (by decide)⟩ x c = 16 * (r * 128 + c) + x := by
      unfold number
      show 16 * ((8 * (r.val / 8) + r.val % 8) * 128 + c.val) + x.val = _
      rw [Nat.div_add_mod]
    rw [e]

end Cert.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and leaves every counter at zero. -/
theorem reference_quiescent : quiescent_ReferenceIdeal := fun m ρ _ =>
  (θ_run _ _ _).mono (fun r h => ⟨fun c => by
      obtain ⟨M, -, -, k⟩ := h c
      exact ⟨k _ (by decide), k _ (by decide), k _ (by decide), k _ (by decide), k _ (by decide), k _ (by decide)⟩,
    sem_eq_zero_of_no_sems (by decide) r.2⟩) (Cert.ReferenceIdeal.run m ρ)

/-- The kernel's result is the reference's, over the extended reals. -/
theorem algebraic : algebraic_KernelIdeal_ReferenceIdeal := by
  intro m ρ m' ρ' _ hagree
  refine ⟨fun c => Cert.KernelIdeal.result m c,
    (θ_run _ _ _).mono (fun r h c => ?_) (Cert.KernelIdeal.Value.run_blocks m ρ),
    (θ_run _ _ _).mono (fun r h c => ?_) (Cert.ReferenceIdeal.run m' ρ')⟩
  · obtain ⟨h0, h1⟩ := h c
    exact ⟨h0.trans (Cert.KernelIdeal.final m c), h1⟩
  · obtain ⟨M, hf, hM, k⟩ := h c
    obtain ⟨-, -, -, -, a4, a5⟩ := hagree c
    refine ⟨?_, k _ (by decide), k _ (by decide), k _ (by decide), k _ (by decide), k _ (by decide), k _ (by decide)⟩
    have b4 := (hM Cert.ReferenceIdeal.main_arg4).symm.trans ((k Cert.ReferenceIdeal.main_arg4 (by decide)).trans a4)
    have b5 := (hM Cert.ReferenceIdeal.main_arg5).symm.trans ((k Cert.ReferenceIdeal.main_arg5 (by decide)).trans a5)
    rw [hM]
    funext y
    have hy : y = ix2 ⟨(y 0).val, (y 0).isLt⟩ ⟨(y 1).val, (y 1).isLt⟩ := by
      funext a
      match a with
      | ⟨0, _⟩ => rfl
      | ⟨1, _⟩ => rfl
    rw [hy]
    refine (Cert.ReferenceIdeal.whole_spec c M hf _ _).trans (Eq.trans ?_ (Cert.KernelIdeal.result_apply m c _ _).symm)
    rw [b4, b5]

/-- The certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent,
  IdealRules.named_const.statement Cert.KernelIdeal.κ "variance" .f32 0x3951B716#32
    ((57646071435001 / 288230376151711744 : ℝ) : EReal) rfl,
  algebraic⟩

end Cert.Proof

end
